-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sorted [hPre_finite_sorted : Cert.Pre_finite_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sorted [hPre_finite_sorted : Cert.Pre_finite_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_sorted [hKernelIdeal : Cert.KernelIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_sorted [hReferenceIdeal : Cert.ReferenceIdeal.Facts] [hPre_finite_sorted : Cert.Pre_finite_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_sorted [hKernelIdeal : Cert.KernelIdeal.Facts] [hReferenceIdeal : Cert.ReferenceIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_sorted : Cert.Pre_finite_sorted.Facts),
    quiescent_Kernel (hKernel := hKernel)
    ∧ quiescent_KernelIdeal (hKernelIdeal := hKernelIdeal)
    ∧ quiescent_KernelIdeal_pre_finite_sorted (hKernelIdeal := hKernelIdeal) (hPre_finite_sorted := hPre_finite_sorted)
    ∧ quiescent_ReferenceIdeal (hReferenceIdeal := hReferenceIdeal)
    ∧ quiescent_ReferenceIdeal_pre_finite_sorted (hReferenceIdeal := hReferenceIdeal) (hPre_finite_sorted := hPre_finite_sorted)
    ∧ preserves_Kernel_KernelIdeal
    ∧ algebraic_KernelIdeal_ReferenceIdeal_pre_finite_sorted (hKernelIdeal := hKernelIdeal) (hReferenceIdeal := hReferenceIdeal) (hPre_finite_sorted := hPre_finite_sorted)
-- ==== Pre_finite_sorted.lean ====
abbrev S32768x128 : Shape := ⟨2, ![32768, 128]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S15 : Shape := ⟨1, ![15]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S16_S15_0 : S16.Slices ![0] S15
  slices_S16_S15_1 : S16.Slices ![1] S15
  reducesTo_S15_S_d0 : S15.ReducesTo [0] S_
  slices_S16_S1_15 : S16.Slices ![15] S1
  shapeCasts_S1_S_ : S1.ShapeCasts S_

variable [Facts]

def fn_part1 {F : FTy → Type} [FloatOps F] (main_arg1 : IVec S16 32) (main_v13 : IVec S_ 1) (main_v16 : IVec S15 1) (main_c_4 : IVec S_ 1) : IVec S_ 1 :=
  let main_v17 : IVec S_ 1 := (fun x v => Host.reduce IntOp.andi x v reducesTo_S15_S_d0 h_S_) main_v16 main_c_4
  let main_v18 : IVec S_ 1 := andi main_v13 main_v17
  let main_v19 : IVec S1 32 := (extractStridedSlice S1 ![15] · slices_S16_S1_15) main_arg1
  let main_v20 : IVec S_ 32 := shapeCast S_ main_v19 shapeCasts_S1_S_
  let main_c_5 : IVec S_ 32 := constantI S_ 32 32768#32
  let main_v21 : IVec S_ 1 := cmpi .sge main_v20 main_c_5
  let main_v22 : IVec S_ 1 := andi main_v18 main_v21
  main_v22

def fn {F : FTy → Type} [FloatOps F] (main_arg0 : FVec F S32768x128 .f32) (main_arg1 : IVec S16 32) (main_arg2 : FVec F S256x256 .f32) (main_arg3 : FVec F S256 .f32) (main_arg4 : FVec F S256x1 .f32) (main_arg5 : FVec F S1 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : IVec S15 32 := (extractStridedSlice S15 ![0] · slices_S16_S15_0) main_arg1
  let main_v15 : IVec S15 32 := (extractStridedSlice S15 ![1] · slices_S16_S15_1) main_arg1
  let main_v16 : IVec S15 1 := cmpi .sle main_v14 main_v15
  let main_c_4 : IVec S_ 1 := constantI S_ 1 1#1
  fn_part1 (F := F) main_arg1 main_v13 main_v16 main_c_4
-- ==== Kernel.lean ====
abbrev S32768x128 : Shape := ⟨2, ![32768, 128]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x16 : Shape := ⟨2, ![1, 16]⟩
abbrev S_ : Shape := ⟨0, ![]⟩
abbrev S1x1 : Shape := ⟨2, ![1, 1]⟩
abbrev S1x15 : Shape := ⟨2, ![1, 15]⟩
abbrev S1x1x1x16 : Shape := ⟨4, ![1, 1, 1, 16]⟩
abbrev S1x1x3x16 : Shape := ⟨4, ![1, 1, 3, 16]⟩
abbrev S1x48 : Shape := ⟨2, ![1, 48]⟩
abbrev S1x256 : Shape := ⟨2, ![1, 256]⟩
abbrev S32768x1 : Shape := ⟨2, ![32768, 1]⟩
abbrev S8192x128 : Shape := ⟨2, ![8192, 128]⟩
abbrev S8192x1 : Shape := ⟨2, ![8192, 1]⟩
abbrev S32768x256 : Shape := ⟨2, ![32768, 256]⟩
abbrev S16x128 : Shape := ⟨2, ![16, 128]⟩
abbrev S48x256 : Shape := ⟨2, ![48, 256]⟩
abbrev S8192x16 : Shape := ⟨2, ![8192, 16]⟩
abbrev S128x256 : Shape := ⟨2, ![128, 256]⟩
abbrev S8192x256 : Shape := ⟨2, ![8192, 256]⟩
abbrev S16x256 : Shape := ⟨2, ![16, 256]⟩
abbrev S15x256 : Shape := ⟨2, ![15, 256]⟩
abbrev S8192x48 : Shape := ⟨2, ![8192, 48]⟩

abbrev nBuf : Space → Nat
  | .hbm => 17
  | .vmem => 13
  | .smem => 0
  | _ => 0

abbrev bufTy : (tb : Table) → Fin (tcTables nBuf tb) → BufTy
  | .hbm, ⟨0, _⟩ => ⟨S32768x128, .f32⟩
  | .hbm, ⟨1, _⟩ => ⟨S16, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x16, .i32⟩
  | .hbm, ⟨7, _⟩ => ⟨S_, .i32⟩
  | .hbm, ⟨8, _⟩ => ⟨S1x1, .i32⟩
  | .hbm, ⟨9, _⟩ => ⟨S1x15, .i32⟩
  | .hbm, ⟨10, _⟩ => ⟨S1x16, .i32⟩
  | .hbm, ⟨11, _⟩ => ⟨S1x1x1x16, .i32⟩
  | .hbm, ⟨12, _⟩ => ⟨S1x1x3x16, .i32⟩
  | .hbm, ⟨13, _⟩ => ⟨S1x48, .i32⟩
  | .hbm, ⟨14, _⟩ => ⟨S1x256, .f32⟩
  | .hbm, ⟨15, _⟩ => ⟨S1x1, .f32⟩
  | .hbm, ⟨16, _⟩ => ⟨S32768x1, .f32⟩
  | .local _ .vmem, ⟨0, _⟩ => ⟨S1x16, .i32⟩
  | .local _ .vmem, ⟨1, _⟩ => ⟨S1x48, .i32⟩
  | .local _ .vmem, ⟨2, _⟩ => ⟨S8192x128, .f32⟩
  | .local _ .vmem, ⟨3, _⟩ => ⟨S8192x128, .f32⟩
  | .local _ .vmem, ⟨4, _⟩ => ⟨S256x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S8192x1, .f32⟩
  | .local _ .vmem, ⟨9, _⟩ => ⟨S8192x1, .f32⟩
  | .local _ .vmem, ⟨10, _⟩ => ⟨S32768x256, .bf16⟩
  | .local _ .vmem, ⟨11, _⟩ => ⟨S16x128, .f32⟩
  | .local _ .vmem, ⟨12, _⟩ => ⟨S48x256, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c8192_i32_9 : BitVec 32 := 8192#32
  let v32 : BitVec 32 := Scalar.muli arg0 c8192_i32_9
  let v33 : Index := Scalar.indexCast v32
  let c0_10 : Index := 0#32
  ![v33.toNat, 0]
def k0_cond5 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c4_i32_2 : BitVec 32 := 4#32
  let v6 : BitVec 32 := Scalar.subi arg0 c4_i32_2
  let c8192_i32_6 : BitVec 32 := 8192#32
  let v22 : BitVec 32 := Scalar.muli v6 c8192_i32_6
  let v23 : Index := Scalar.indexCast v22
  let c0_7 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x48 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x128 : Shape := ⟨2, ![32768, 128]⟩
abbrev S16 : Shape := ⟨1, ![16]⟩
abbrev S256x256 : Shape := ⟨2, ![256, 256]⟩
abbrev S256 : Shape := ⟨1, ![256]⟩
abbrev S256x1 : Shape := ⟨2, ![256, 1]⟩
abbrev S1 : Shape := ⟨1, ![1]⟩
abbrev S32768 : Shape := ⟨1, ![32768]⟩
abbrev S1x16 : Shape := ⟨2, ![1, 16]⟩
abbrev S32768x1 : Shape := ⟨2, ![32768, 1]⟩
abbrev S32768x16 : Shape := ⟨2, ![32768, 16]⟩
abbrev S_ : Shape := ⟨0, ![]⟩
abbrev S16x128 : Shape := ⟨2, ![16, 128]⟩
abbrev S1x1 : Shape := ⟨2, ![1, 1]⟩
abbrev S32768x256 : Shape := ⟨2, ![32768, 256]⟩
abbrev S1x256 : Shape := ⟨2, ![1, 256]⟩

abbrev nBuf : Space → Nat
  | .hbm => 62
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S32768, .i32⟩
  | .hbm, ⟨7, _⟩ => ⟨S1x16, .i32⟩
  | .hbm, ⟨8, _⟩ => ⟨S32768x1, .i32⟩
  | .hbm, ⟨9, _⟩ => ⟨S32768x16, .i32⟩
  | .hbm, ⟨10, _⟩ => ⟨S32768x16, .i32⟩
  | .hbm, ⟨11, _⟩ => ⟨S32768x16, .i1⟩
  | .hbm, ⟨12, _⟩ => ⟨S32768x16, .i32⟩
  | .hbm, ⟨13, _⟩ => ⟨S_, .i32⟩
  | .hbm, ⟨14, _⟩ => ⟨S32768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .f32⟩
  | .hbm, ⟨24, _⟩ => ⟨S16x128, .f32⟩
  | .hbm, ⟨25, _⟩ => ⟨S32768x1, .i32⟩
  | .hbm, ⟨26, _⟩ => ⟨S16x128, .f32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S1, .i32⟩
  | .hbm, ⟨36, _⟩ => ⟨S_, .i32⟩
  | .hbm, ⟨37, _⟩ => ⟨S32768x1, .i32⟩
  | .hbm, ⟨38, _⟩ => ⟨S32768x1, .i1⟩
  | .hbm, ⟨39, _⟩ => ⟨S1x1, .i32⟩
  | .hbm, ⟨40, _⟩ => ⟨S32768x1, .i32⟩
  | .hbm, ⟨41, _⟩ => ⟨S32768x1, .i1⟩
  | .hbm, ⟨42, _⟩ => ⟨S32768x1, .i1⟩
  | .hbm, ⟨43, _⟩ => ⟨S_, .i1⟩
  | .hbm, ⟨44, _⟩ => ⟨S32768, .i1⟩
  | .hbm, ⟨45, _⟩ => ⟨S32768x128, .f32⟩
  | .hbm, ⟨46, _⟩ => ⟨S32768x128, .i1⟩
  | .hbm, ⟨47, _⟩ => ⟨S_, .f32⟩
  | .hbm, ⟨48, _⟩ => ⟨S32768x128, .f32⟩
  | .hbm, ⟨49, _⟩ => ⟨S32768x128, .f32⟩
  | .hbm, ⟨50, _⟩ => ⟨S32768x256, .f32⟩
  | .hbm, ⟨51, _⟩ => ⟨S32768x256, .f32⟩
  | .hbm, ⟨52, _⟩ => ⟨S1x256, .f32⟩
  | .hbm, ⟨53, _⟩ => ⟨S32768x256, .f32⟩
  | .hbm, ⟨54, _⟩ => ⟨S32768x256, .f32⟩
  | .hbm, ⟨55, _⟩ => ⟨S_, .f32⟩
  | .hbm, ⟨56, _⟩ => ⟨S32768x256, .f32⟩
  | .hbm, ⟨57, _⟩ => ⟨S32768x256, .f32⟩
  | .hbm, ⟨58, _⟩ => ⟨S32768x1, .f32⟩
  | .hbm, ⟨59, _⟩ => ⟨S1x1, .f32⟩
  | .hbm, ⟨60, _⟩ => ⟨S32768x1, .f32⟩
  | .hbm, ⟨61, _⟩ => ⟨S32768x1, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_call2_cst : Ref sig .tc := ⟨.hbm, 55, rfl⟩
abbrev main_call2_v0 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩

abbrev nD : Nat := 1
abbrev τ : Topo := Topo.v7x

variable {F : FTy → Type} [FloatOps F]
-- ==== Proof.Runs.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Claim
public import Idealize.ShloMosaic.Lib.Tactic
public import Idealize.ShloMosaic.Lib.Ring
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the accumulating phase: the point is one of the first four. -/
abbrev cond0 (i : grid0.Coords) : Prop := k0_cond1 i = 1#1
/-- The condition of the accumulator's first store: the first point. -/
abbrev cond1 (i : grid0.Coords) : Prop := (Scalar.cmpi .ne (Scalar.extui (Scalar.cmpi .eq (BitVec.ofNat 32 (i 0).val) 0#32)) 0#32) = 1#1
/-- The condition of the accumulator's later stores: any point but the first. -/
abbrev cond2 (i : grid0.Coords) : Prop := (Scalar.cmpi .ne (Scalar.extui (Scalar.cmpi .ne (BitVec.ofNat 32 (i 0).val) 0#32)) 0#32) = 1#1
/-- The condition of the segment table's store: the fourth point. -/
abbrev cond3 (i : grid0.Coords) : Prop := (Scalar.cmpi .ne (Scalar.extui (Scalar.cmpi .eq (BitVec.ofNat 32 (i 0).val) 3#32)) 0#32) = 1#1
/-- The condition of the output phase: the point is one of the last four. -/
abbrev cond4 (i : grid0.Coords) : Prop := k0_cond5 i = 1#1

/-- Reading a whole matrix through the rectangle of its own sizes gives the matrix. -/
theorem ld_whole {Val : EltTy → Type} {e : EltTy} {a b : ℕ} (x : (⟨2, ![a, b]⟩ : Shape).Idx → Val e) (inb : ∀ k, (![0, 0] : Fin 2 → ℕ) k + (![a, b] : Fin 2 → ℕ) k ≤ (⟨2, ![a, b]⟩ : Shape).size k) :
    View.ld x (Rect.unit (s := ⟨2, ![a, b]⟩) ![0, 0] ![a, b] inb) = x := by
  funext y
  refine congrArg x (funext fun k => Fin.ext ?_)
  show (![0, 0] : Fin 2 → ℕ) k + 1 * (y k).val = (y k).val
  have := inb k
  have h : (⟨2, ![a, b]⟩ : Shape).size k = (![a, b] : Fin 2 → ℕ) k := rfl
  omega

/-- Writing a whole matrix through the rectangle of its own sizes leaves what was written. -/
theorem put_whole {α : Type} {a b : ℕ} (x : (⟨2, ![a, b]⟩ : Shape).Idx → α) (w : ((k : Fin 2) → Fin ((![a, b] : Fin 2 → ℕ) k)) → α) :
    VecWindow.put (s := ⟨2, ![a, b]⟩) x ![0, 0] ![a, b] w = w := by
  have h := VecWindow.window_put_same (s := ⟨2, ![a, b]⟩) x ![0, 0] ![a, b] (fun k => by fin_cases k <;> simp) w
  refine Eq.trans ?_ h
  funext y
  refine congrArg _ (funext fun k => Fin.ext ?_)
  show (y k).val = (![0, 0] : Fin 2 → ℕ) k + 1 * (y k).val
  fin_cases k <;> simp

/-- Reading back a whole matrix just written gives what was written. -/
theorem readCov_whole {Val : EltTy → Type} [∀ e, Nonempty (Val e)] {sig : RefSig} {κ : Kind} {sp : Space} {e : EltTy} {a b : ℕ} (v : View sig κ sp ⟨2, ![a, b]⟩ e)
    (inb inb' : ∀ k, (![0, 0] : Fin 2 → ℕ) k + (![a, b] : Fin 2 → ℕ) k ≤ (⟨2, ![a, b]⟩ : Shape).size k)
    (w : (Rect.unit (s := ⟨2, ![a, b]⟩) ![0, 0] ![a, b] inb').shape.Idx → Val e) (L : List (View.Piece Val ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-- What one accumulating point stores of its block of rows: the rows times the upper half of the first weight matrix. -/
def pxBlk (x2 : Vec F S8192x128 .f32) (x3 : Vec F S256x256 .f32) : FVec F S8192x256 .bf16 :=
  k0_pay5 x2 (View.ld (Val := Elt F) (e' := .f32) x3 (Rect.unit (s := S256x256) ![0, 0] S128x256.size inb_S256x256_S128x256_0_0))

/-- One accumulating point's summand of the segment sums. -/
def partBlk (i : grid0.Coords) (x0 : Vec F S1x16 .i32) (x1 : Vec F S1x48 .i32) (x2 : Vec F S8192x128 .f32) : FVec F S16x128 .f32 :=
  k0_pay6 (BitVec.ofNat 32 (i 0).val) (View.ld (Val := Elt F) (e' := .i32) x1 (Rect.unit (s := S1x48) ![0, 0] S1x16.size inb_S1x48_S1x16_0_0)) x0 x2

/-- The table of differences of the segments' rows. -/
def dgtBlk (S : Vec F S16x128 .f32) (x3 : Vec F S256x256 .f32) (x4 : Vec F S1x256 .f32) : FVec F S48x256 .f32 :=
  k0_pay2 S (View.ld (Val := Elt F) (e' := .f32) x3 (Rect.unit (s := S256x256) ![128, 0] S128x256.size inb_S256x256_S128x256_128_0)) x4

set_option maxHeartbeats 1000000 in
/-- The body at the first point, run: the block's product and the first summand stored. -/
theorem runA (c : Dev nD) (i : grid0.Coords) (arg1 : Memref sig .tc .vmem S1x16 .i32) (harg1 : arg1.IsWhole) (arg2 : Memref sig .tc .vmem S1x48 .i32) (harg2 : arg2.IsWhole) (arg3 : Memref sig .tc .vmem S8192x128 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S8192x1 .f32) (harg8 : arg8.IsWhole)
    (arg9 : Memref sig .tc .vmem S32768x256 .bf16) (harg9 : arg9.IsWhole) (arg10 : Memref sig .tc .vmem S16x128 .f32) (harg10 : arg10.IsWhole) (arg11 : Memref sig .tc .vmem S48x256 .f32) (harg11 : arg11.IsWhole)
    (hc0 : cond0 i) (hc1 : cond1 i) (hc2 : ¬cond2 i) (hc3 : ¬cond3 i) (hc4 : ¬cond4 i)
    (x0 : Vec F S1x16 .i32) (x1 : Vec F S1x48 .i32) (x2 : Vec F S8192x128 .f32) (x3 : Vec F S256x256 .f32) (xs0 : Vec F S32768x256 .bf16) (xs1 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (VecWindow.put xs0 (k0_off1 i) S8192x256.size (pxBlk x2 x3)) ∗ owns (c : Thread nD τ) arg10 fullShare (shapeCast S16x128 (partBlk i x0 x1 x2) shapeCasts_S16x128_S16x128)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg9.eq_unread hf9; obtain rfl := harg10.eq_unread hf10
  sl_exec (disch := first | sl_exact hc0 | sl_exact hc1 | sl_exact hc2 | sl_exact hc3 | sl_exact hc4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H9]
  · iexists _; isplitr; swap; · iexact H9
    ipureintro; sl_unfold_run_names; simp only [View.read_writes_cons_put _ _ _ _ _ rfl, View.writes_nil, View.readAt_eq_ld, Memref.IsWhole.read_unread, readCov_whole, put_whole, ld_whole, pxBlk, partBlk, dgtBlk]; try rfl
  iexists _; isplitr; swap; · iexact H10
  ipureintro; sl_unfold_run_names; simp only [View.read_writes_cons_put _ _ _ _ _ rfl, View.writes_nil, View.readAt_eq_ld, Memref.IsWhole.read_unread, readCov_whole, put_whole, ld_whole, pxBlk, partBlk, dgtBlk]; try rfl

set_option maxHeartbeats 1000000 in
/-- The body at the second and third points, run: the block's product stored, the summand added. -/
theorem runB (c : Dev nD) (i : grid0.Coords) (arg1 : Memref sig .tc .vmem S1x16 .i32) (harg1 : arg1.IsWhole) (arg2 : Memref sig .tc .vmem S1x48 .i32) (harg2 : arg2.IsWhole) (arg3 : Memref sig .tc .vmem S8192x128 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S8192x1 .f32) (harg8 : arg8.IsWhole)
    (arg9 : Memref sig .tc .vmem S32768x256 .bf16) (harg9 : arg9.IsWhole) (arg10 : Memref sig .tc .vmem S16x128 .f32) (harg10 : arg10.IsWhole) (arg11 : Memref sig .tc .vmem S48x256 .f32) (harg11 : arg11.IsWhole)
    (hc0 : cond0 i) (hc1 : ¬cond1 i) (hc2 : cond2 i) (hc3 : ¬cond3 i) (hc4 : ¬cond4 i)
    (x0 : Vec F S1x16 .i32) (x1 : Vec F S1x48 .i32) (x2 : Vec F S8192x128 .f32) (x3 : Vec F S256x256 .f32) (xs0 : Vec F S32768x256 .bf16) (xs1 : Vec F S16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (VecWindow.put xs0 (k0_off1 i) S8192x256.size (pxBlk x2 x3)) ∗ owns (c : Thread nD τ) arg10 fullShare (k0_pay1 (partBlk i x0 x1 x2) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg9.eq_unread hf9; obtain rfl := harg10.eq_unread hf10
  sl_exec (disch := first | sl_exact hc0 | sl_exact hc1 | sl_exact hc2 | sl_exact hc3 | sl_exact hc4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H9]
  · iexists _; isplitr; swap; · iexact H9
    ipureintro; sl_unfold_run_names; simp only [View.read_writes_cons_put _ _ _ _ _ rfl, View.writes_nil, View.readAt_eq_ld, Memref.IsWhole.read_unread, readCov_whole, put_whole, ld_whole, pxBlk, partBlk, dgtBlk]; try rfl
  iexists _; isplitr; swap; · iexact H10
  ipureintro; sl_unfold_run_names; simp only [View.read_writes_cons_put _ _ _ _ _ rfl, View.writes_nil, View.readAt_eq_ld, Memref.IsWhole.read_unread, readCov_whole, put_whole, ld_whole, pxBlk, partBlk, dgtBlk]; try rfl

set_option maxHeartbeats 1000000 in
/-- The body at the fourth point, run: as before, and the table stored from the finished sums. -/
theorem runC (c : Dev nD) (i : grid0.Coords) (arg1 : Memref sig .tc .vmem S1x16 .i32) (harg1 : arg1.IsWhole) (arg2 : Memref sig .tc .vmem S1x48 .i32) (harg2 : arg2.IsWhole) (arg3 : Memref sig .tc .vmem S8192x128 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S8192x1 .f32) (harg8 : arg8.IsWhole)
    (arg9 : Memref sig .tc .vmem S32768x256 .bf16) (harg9 : arg9.IsWhole) (arg10 : Memref sig .tc .vmem S16x128 .f32) (harg10 : arg10.IsWhole) (arg11 : Memref sig .tc .vmem S48x256 .f32) (harg11 : arg11.IsWhole)
    (hc0 : cond0 i) (hc1 : ¬cond1 i) (hc2 : cond2 i) (hc3 : cond3 i) (hc4 : ¬cond4 i)
    (x0 : Vec F S1x16 .i32) (x1 : Vec F S1x48 .i32) (x2 : Vec F S8192x128 .f32) (x3 : Vec F S256x256 .f32) (x4 : Vec F S1x256 .f32) (xs0 : Vec F S32768x256 .bf16) (xs1 : Vec F S16x128 .f32) (xs2 : Vec F S48x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs0 ∗ owns (c : Thread nD τ) arg10 fullShare xs1 ∗ owns (c : Thread nD τ) arg11 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare (VecWindow.put xs0 (k0_off1 i) S8192x256.size (pxBlk x2 x3)) ∗ owns (c : Thread nD τ) arg10 fullShare (k0_pay1 (partBlk i x0 x1 x2) xs1) ∗ owns (c : Thread nD τ) arg11 fullShare (dgtBlk (k0_pay1 (partBlk i x0 x1 x2) xs1) x3 x4)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11
  sl_exec (disch := first | sl_exact hc0 | sl_exact hc1 | sl_exact hc2 | sl_exact hc3 | sl_exact hc4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H9]
  · iexists _; isplitr; swap; · iexact H9
    ipureintro; sl_unfold_run_names; simp only [View.read_writes_cons_put _ _ _ _ _ rfl, View.writes_nil, View.readAt_eq_ld, Memref.IsWhole.read_unread, readCov_whole, put_whole, ld_whole, pxBlk, partBlk, dgtBlk]; try rfl
  isplitl [H10]
  · iexists _; isplitr; swap; · iexact H10
    ipureintro; sl_unfold_run_names; simp only [View.read_writes_cons_put _ _ _ _ _ rfl, View.writes_nil, View.readAt_eq_ld, Memref.IsWhole.read_unread, readCov_whole, put_whole, ld_whole, pxBlk, partBlk, dgtBlk]; try rfl
  iexists _; isplitr; swap; · iexact H11
  ipureintro; sl_unfold_run_names; simp only [View.read_writes_cons_put _ _ _ _ _ rfl, View.writes_nil, View.readAt_eq_ld, Memref.IsWhole.read_unread, readCov_whole, put_whole, ld_whole, pxBlk, partBlk, dgtBlk]; try rfl

set_option maxHeartbeats 1000000 in
/-- The body at the last four points, run: the output block stored. -/
theorem runD (c : Dev nD) (i : grid0.Coords) (arg1 : Memref sig .tc .vmem S1x16 .i32) (harg1 : arg1.IsWhole) (arg2 : Memref sig .tc .vmem S1x48 .i32) (harg2 : arg2.IsWhole) (arg3 : Memref sig .tc .vmem S8192x128 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S8192x1 .f32) (harg8 : arg8.IsWhole)
    (arg9 : Memref sig .tc .vmem S32768x256 .bf16) (harg9 : arg9.IsWhole) (arg10 : Memref sig .tc .vmem S16x128 .f32) (harg10 : arg10.IsWhole) (arg11 : Memref sig .tc .vmem S48x256 .f32) (harg11 : arg11.IsWhole)
    (hc0 : ¬cond0 i) (hc4 : cond4 i)
    (x1 : Vec F S1x48 .i32) (x5 : Vec F S256x1 .f32) (x6 : Vec F S1x1 .f32) (y : Vec F S8192x1 .f32) (xs0 : Vec F S32768x256 .bf16) (xs2 : Vec F S48x256 .f32) (E : Set ℕ) (K : PUnit → sProp 𝕄) :
    iprop(owns (c : Thread nD τ) arg2 fullShare x1 ∗ owns (c : Thread nD τ) arg6 fullShare x5 ∗ owns (c : Thread nD τ) arg7 fullShare x6 ∗ owns (c : Thread nD τ) arg8 fullShare y ∗ owns (c : Thread nD τ) arg9 fullShare xs0 ∗ owns (c : Thread nD τ) arg11 fullShare xs2
        ∗ (iprop(owns (c : Thread nD τ) arg2 fullShare x1 ∗ owns (c : Thread nD τ) arg6 fullShare x5 ∗ owns (c : Thread nD τ) arg7 fullShare x6 ∗ owns (c : Thread nD τ) arg8 fullShare (k0_pay3 i x1 xs2 (View.ld (Val := Elt F) (e' := .bf16) xs0 (Rect.unit (s := S32768x256) (k0_off2 i) S8192x256.size (k0_off2_inb i hc4))) x5 x6) ∗ owns (c : Thread nD τ) arg9 fullShare xs0 ∗ owns (c : Thread nD τ) arg11 fullShare xs2) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton]
  unfold owns
  iintro ⟨⟨%f2, %hf2, H2⟩, ⟨%f6, %hf6, H6⟩, ⟨%f7, %hf7, H7⟩, ⟨%f8, %hf8, H8⟩, ⟨%f9, %hf9, H9⟩, ⟨%f11, %hf11, H11⟩, Hk⟩
  obtain rfl := harg2.eq_unread hf2; obtain rfl := harg6.eq_unread hf6; obtain rfl := harg7.eq_unread hf7; obtain rfl := harg8.eq_unread hf8; obtain rfl := harg9.eq_unread hf9; obtain rfl := harg11.eq_unread hf11
  sl_exec (disch := first | sl_exact hc0 | sl_exact hc4)
  sl_step
  iapply Hk
  isplitl [H2]
  · iexists _; isplitr; swap; · iexact H2
    ipureintro; exact harg2.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; sl_unfold_run_names; simp only [View.read_writes_cons_put _ _ _ _ _ rfl, View.writes_nil, View.readAt_eq_ld, Memref.IsWhole.read_unread, readCov_whole, put_whole, ld_whole, pxBlk, partBlk, dgtBlk]; try rfl
  isplitl [H9]
  · iexists _; isplitr; swap; · iexact H9
    ipureintro; exact harg9.read_unread _
  iexists _; isplitr; swap; · iexact H11
  ipureintro; exact harg11.read_unread _

end Cert.KernelIdeal.Hand

end
-- ==== Proof.Pipe.lean ====
module

public import proofs.«01_k».proof.Proof.Runs
public import proofs.«01_k».proof.Proof.Gen.KernelIdeal.Frame
public import proofs.«01_k».proof.Proof.Gen.KernelIdeal.Skeleton
public import Idealize.ShloMosaic.Lib.Pipeline.FrameBody
public import Idealize.ShloMosaic.Lib.Claim
public import Idealize.ShloMosaic.Lib.Tactic
public import Idealize.ShloMosaic.Lib.Ring
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the grid -/

/-- The grid has eight points. -/
theorem N_eq : cfg0.N = 8 := N_0

/-- The first condition holds at the accumulating points, -/
theorem hcond0 : ∀ t : Fin cfg0.N, cond0 (grid0.coords t) ↔ t.val < 4 :=
  (by decide +kernel : ∀ t : Fin grid0.N, cond0 (grid0.coords t) ↔ t.val < 4)
/-- the second at the first point, -/
theorem hcond1 : ∀ t : Fin cfg0.N, cond1 (grid0.coords t) ↔ t.val = 0 :=
  (by decide +kernel : ∀ t : Fin grid0.N, cond1 (grid0.coords t) ↔ t.val = 0)
/-- the third at the others, -/
theorem hcond2 : ∀ t : Fin cfg0.N, cond2 (grid0.coords t) ↔ t.val ≠ 0 :=
  (by decide +kernel : ∀ t : Fin grid0.N, cond2 (grid0.coords t) ↔ t.val ≠ 0)
/-- the fourth at the last accumulating point, -/
theorem hcond3 : ∀ t : Fin cfg0.N, cond3 (grid0.coords t) ↔ t.val = 3 :=
  (by decide +kernel : ∀ t : Fin grid0.N, cond3 (grid0.coords t) ↔ t.val = 3)
/-- the fifth at the output points. -/
theorem hcond4 : ∀ t : Fin cfg0.N, cond4 (grid0.coords t) ↔ 4 ≤ t.val :=
  (by decide +kernel : ∀ t : Fin grid0.N, cond4 (grid0.coords t) ↔ 4 ≤ t.val)

/-- The rows an accumulating point stores begin at 8192 times the point. -/
theorem off1_eq : ∀ t : Fin cfg0.N, t.val < 4 → k0_off1 (grid0.coords t) = ![t.val * 8192, 0] :=
  (by decide +kernel : ∀ t : Fin grid0.N, t.val < 4 → k0_off1 (grid0.coords t) = ![t.val * 8192, 0])
/-- The rows an output point reads begin at 8192 times the point's distance from the fourth. -/
theorem off2_eq : ∀ t : Fin cfg0.N, 4 ≤ t.val → k0_off2 (grid0.coords t) = ![(t.val - 4) * 8192, 0] :=
  (by decide +kernel : ∀ t : Fin grid0.N, 4 ≤ t.val → k0_off2 (grid0.coords t) = ![(t.val - 4) * 8192, 0])

/-- The result's window is idle at the accumulating points, -/
theorem idle7_lt : ∀ t : Fin cfg0.N, t.val < 4 → cfg0.idle 7 (grid0.coords t) = true :=
  (by decide +kernel : ∀ t : Fin grid0.N, t.val < 4 → idle0 7 (grid0.coords t) = true)
/-- live at the output points, -/
theorem idle7_ge : ∀ t : Fin cfg0.N, 4 ≤ t.val → cfg0.idle 7 (grid0.coords t) = false :=
  (by decide +kernel : ∀ t : Fin grid0.N, 4 ≤ t.val → idle0 7 (grid0.coords t) = false)
/-- and written back at the output points only. -/
theorem flush7 : ∀ t : Fin cfg0.N, (cfg0.win 7).flush t = true ↔ 4 ≤ t.val :=
  (by decide +kernel : ∀ t : Fin grid0.N, win0_7.flush t = true ↔ 4 ≤ t.val)

/-! ## What the carried buffers hold -/

/-- The rows a block occupies lie in the kept product. -/
theorem inbRows (k : ℕ) (hk : k < 4) : ∀ a, (![k * 8192, 0] : Fin 2 → ℕ) a + S8192x256.size a ≤ S32768x256.size a := by
  intro a
  fin_cases a
  · show k * 8192 + 8192 ≤ 32768; omega
  · show 0 + 256 ≤ 256; omega

/-- The product the accumulating point `t` stores. -/
def pxAt (c : Dev nD) (t : Fin cfg0.N) : FVec F S8192x256 .bf16 := pxBlk (iblk m c 2 t) (iblk m c 3 t)

/-- The summand the accumulating point `t` adds. -/
def partAt (c : Dev nD) (t : Fin cfg0.N) : FVec F S16x128 .f32 := partBlk (grid0.coords t) (iblk m c 0 t) (iblk m c 1 t) (iblk m c 2 t)

/-- The sums after the accumulating point `n`. -/
def accAt (c : Dev nD) : (n : ℕ) → n < cfg0.N → FVec F S16x128 .f32
  | 0, h => shapeCast S16x128 (partAt m c ⟨0, h⟩) shapeCasts_S16x128_S16x128
  | n + 1, h => k0_pay1 (partAt m c ⟨n + 1, h⟩) (accAt c n (Nat.lt_of_succ_lt h))

/-- The fourth point. -/
abbrev t3 : Fin cfg0.N := ⟨3, by rw [N_eq]; omega⟩

/-- The table of differences. -/
def dgtAt (c : Dev nD) : FVec F S48x256 .f32 := dgtBlk (accAt m c 3 t3.isLt) (iblk m c 3 t3) (iblk m c 4 t3)

/-- The block an output point stores. -/
def outAt (c : Dev nD) (t : Fin cfg0.N) : FVec F S8192x1 .f32 :=
  k0_pay3 (grid0.coords t) (iblk m c 1 t) (dgtAt m c) (pxAt m c ⟨t.val - 4, lt_of_le_of_lt (Nat.sub_le _ _) t.isLt⟩) (iblk m c 5 t) (iblk m c 6 t)

/-- What is known of the three carried buffers before point `n`. -/
structure Carried (c : Dev nD) (n : ℕ) (P : Vec F S32768x256 .bf16) (S : Vec F S16x128 .f32) (D : Vec F S48x256 .f32) : Prop where
  px : ∀ t : Fin cfg0.N, ∀ h : t.val < 4, t.val < n → VecWindow.window P ![t.val * 8192, 0] S8192x256.size (inbRows t.val h) = pxAt m c t
  acc : ∀ k : ℕ, ∀ h : k < cfg0.N, k < 4 → (n = k + 1 ∨ (k = 3 ∧ 4 ≤ n)) → S = accAt m c k h
  dgt : 4 ≤ n → D = dgtAt m c

/-- Nothing is asked of the scratch buffers before the first point. -/
theorem carried_zero (c : Dev nD) (P S D) : Carried m c 0 P S D :=
  ⟨fun t _ h => absurd h (Nat.not_lt_zero _), fun k _ _ h => by omega, fun h => by omega⟩

/-- An accumulating point's store keeps the earlier blocks and gives its own. -/
theorem px_step (c : Dev nD) (t : Fin cfg0.N) (h4 : t.val < 4) (P S D) (hC : Carried m c t.val P S D) (t' : Fin cfg0.N) (h' : t'.val < 4) (hlt : t'.val < t.val + 1) :
    VecWindow.window (VecWindow.put P (k0_off1 (grid0.coords t)) S8192x256.size (pxAt m c t)) ![t'.val * 8192, 0] S8192x256.size (inbRows t'.val h') = pxAt m c t' := by
  rw [off1_eq t h4]
  rcases Nat.lt_or_ge t'.val t.val with h | h
  · rw [VecWindow.window_put_of_disjoint P _ _ _ _ (inbRows t'.val h') (pxAt m c t) 0 (Or.inl (by show t'.val * 8192 + 8192 ≤ t.val * 8192; omega))]
    exact hC.px t' h' h
  · obtain rfl : t' = t := Fin.ext (by omega)
    exact VecWindow.window_put_same P _ _ (inbRows t'.val h') (pxAt m c t')

/-- The first point leaves what is asked of them after it; -/
theorem carried_first (c : Dev nD) (t : Fin cfg0.N) (h0 : t.val = 0) (P S D) (hC : Carried m c t.val P S D) :
    Carried m c (t.val + 1) (VecWindow.put P (k0_off1 (grid0.coords t)) S8192x256.size (pxAt m c t)) (shapeCast S16x128 (partAt m c t) shapeCasts_S16x128_S16x128) D := by
  refine ⟨fun t' h' hlt => px_step m c t (by omega) P S D hC t' h' hlt, fun k hk h4 h => ?_, fun h => by omega⟩
  obtain rfl : k = 0 := by omega
  obtain ⟨n, hn⟩ := t
  subst h0
  rfl

/-- so do the second and the third, -/
theorem carried_mid (c : Dev nD) (t : Fin cfg0.N) (h0 : t.val ≠ 0) (h3 : t.val < 3) (P S D) (hC : Carried m c t.val P S D) :
    Carried m c (t.val + 1) (VecWindow.put P (k0_off1 (grid0.coords t)) S8192x256.size (pxAt m c t)) (k0_pay1 (partAt m c t) S) D := by
  refine ⟨fun t' h' hlt => px_step m c t (by omega) P S D hC t' h' hlt, fun k hk h4 h => ?_, fun h => by omega⟩
  obtain ⟨n, hn⟩ := t
  obtain ⟨n, rfl⟩ : ∃ j, n = j + 1 := ⟨n - 1, by simp only at h0; omega⟩
  obtain rfl : k = n + 1 := by simp only at h h3; omega
  rw [hC.acc n (Nat.lt_of_succ_lt hn) (by omega) (Or.inl rfl)]
  rfl

/-- and the fourth, which also stores the differences; -/
theorem carried_last (c : Dev nD) (t : Fin cfg0.N) (h3 : t.val = 3) (P S D) (hC : Carried m c t.val P S D) :
    Carried m c (t.val + 1) (VecWindow.put P (k0_off1 (grid0.coords t)) S8192x256.size (pxAt m c t)) (k0_pay1 (partAt m c t) S)
      (dgtBlk (k0_pay1 (partAt m c t) S) (iblk m c 3 t) (iblk m c 4 t)) := by
  obtain ⟨n, hn⟩ := t
  obtain rfl : n = 3 := h3
  have e : k0_pay1 (partAt m c ⟨3, hn⟩) S = accAt m c 3 hn := by
    rw [hC.acc 2 (Nat.lt_of_succ_lt hn) (by omega) (Or.inl rfl)]; rfl
  refine ⟨fun t' h' hlt => px_step m c ⟨3, hn⟩ (by show 3 < 4; omega) P S D hC t' h' hlt, fun k hk h4 h => ?_, fun h => ?_⟩
  · obtain rfl : k = 3 := by simp only at h; omega
    exact e
  · rw [e]; rfl

/-- the output points leave them alone. -/
theorem carried_out (c : Dev nD) (n : ℕ) (h : 4 ≤ n) (P S D) (hC : Carried m c n P S D) : Carried m c (n + 1) P S D :=
  ⟨fun t h' _ => hC.px t h' (by omega), fun k hk h4 hh => hC.acc k hk h4 (Or.inr ⟨by omega, h⟩), fun _ => hC.dgt h⟩

/-- An output point's read of the kept product gives the block of the point four before. -/
theorem px_read (c : Dev nD) (t : Fin cfg0.N) (h4 : 4 ≤ t.val) (P S D) (hC : Carried m c t.val P S D) (inb) :
    View.ld (Val := Elt F) (e' := .bf16) P (Rect.unit (s := S32768x256) (k0_off2 (grid0.coords t)) S8192x256.size inb)
      = pxAt m c ⟨t.val - 4, lt_of_le_of_lt (Nat.sub_le _ _) t.isLt⟩ := by
  have ht : t.val < 8 := lt_of_lt_of_eq t.isLt N_eq
  have e := off2_eq t h4
  have : ∀ off (inb : ∀ a, off a + S8192x256.size a ≤ S32768x256.size a), off = ![(t.val - 4) * 8192, 0] →
      View.ld (Val := Elt F) (e' := .bf16) P (Rect.unit (s := S32768x256) off S8192x256.size inb) = pxAt m c ⟨t.val - 4, lt_of_le_of_lt (Nat.sub_le _ _) t.isLt⟩ := by
    rintro off inb rfl
    exact hC.px ⟨t.val - 4, _⟩ (by show t.val - 4 < 4; omega) (by show t.val - 4 < t.val; omega)
  exact this _ inb e

/-! ## The staging buffers and the invariant -/

/-- Window 0's staging buffer at a point. -/
abbrev ms0 (t : Fin cfg0.N) : Memref sig .tc .vmem S1x16 .i32 := win0_0.stage (cfg0.slots t 0)
/-- Window 1's staging buffer at a point. -/
abbrev ms1 (t : Fin cfg0.N) : Memref sig .tc .vmem S1x48 .i32 := win0_1.stage (cfg0.slots t 1)
/-- Window 2's staging buffer at a point. -/
abbrev ms2 (t : Fin cfg0.N) : Memref sig .tc .vmem S8192x128 .f32 := win0_2.stage (cfg0.slots t 2)
/-- Window 3's staging buffer at a point. -/
abbrev ms3 (t : Fin cfg0.N) : Memref sig .tc .vmem S256x256 .f32 := win0_3.stage (cfg0.slots t 3)
/-- Window 4's staging buffer at a point. -/
abbrev ms4 (t : Fin cfg0.N) : Memref sig .tc .vmem S1x256 .f32 := win0_4.stage (cfg0.slots t 4)
/-- Window 5's staging buffer at a point. -/
abbrev ms5 (t : Fin cfg0.N) : Memref sig .tc .vmem S256x1 .f32 := win0_5.stage (cfg0.slots t 5)
/-- Window 6's staging buffer at a point. -/
abbrev ms6 (t : Fin cfg0.N) : Memref sig .tc .vmem S1x1 .f32 := win0_6.stage (cfg0.slots t 6)
/-- Window 7's staging buffer at a point. -/
abbrev ms7 (t : Fin cfg0.N) : Memref sig .tc .vmem S8192x1 .f32 := win0_7.stage (cfg0.slots t 7)
/-- The kept product. -/
abbrev mP : Memref sig .tc .vmem S32768x256 .bf16 := Memref.whole cc0_scratch0
/-- The running sums. -/
abbrev mS : Memref sig .tc .vmem S16x128 .f32 := Memref.whole cc0_scratch1
/-- The table of differences. -/
abbrev mD : Memref sig .tc .vmem S48x256 .f32 := Memref.whole cc0_scratch2

/-- The buffers outside the windows are the three scratch buffers, beside the generator. -/
theorem PhiA_eq (c : Dev nD) :
    (Pipeline.ΦA spec0 c : sProp 𝕄)
      = iprop(iprop((∃ d, owns (c : Thread nD τ) mP fullShare d) ∗ (∃ d, owns (c : Thread nD τ) mS fullShare d) ∗ (∃ d, owns (c : Thread nD τ) mD fullShare d)) ∗ (∃ r, prngReg c r)) := by
  unfold Pipeline.ΦA; rw [scopedRest0_eq]; simp only [mP, mS, mD, owns_whole]; try rfl

/-- The three carried buffers at contents of which `Carried` holds, and the generator register at some state. -/
def Phi (c : Dev nD) (n : ℕ) : sProp 𝕄 :=
  iprop(∃ P, ∃ S, ∃ D, ⌜Carried m c n P S D⌝ ∗ owns (c : Thread nD τ) mP fullShare P ∗ owns (c : Thread nD τ) mS fullShare S ∗ owns (c : Thread nD τ) mD fullShare D ∗ (∃ r, prngReg c r))

/-- The pipeline's proof data: the inputs at their blocks, the result's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Phi m c t.val
  q _ := fullShare
  owed _ := 0

/-- A window's array starts as the host operations leave it. -/
theorem A_eq (c : Dev nD) (w : Fin cfg0.W) : (dats m 0 c).A w = V m c (Pipeline.arrRef spec0 w) := by
  dsimp only [dats]

/-- The body leaves window 0's block as it was fetched. -/
theorem after_0 (c : Dev nD) (t : Fin cfg0.N) : (dats m 0 c).after 0 t = iblk m c 0 t := by dsimp only [dats]
/-- The body leaves window 1's block as it was fetched. -/
theorem after_1 (c : Dev nD) (t : Fin cfg0.N) : (dats m 0 c).after 1 t = iblk m c 1 t := by dsimp only [dats]
/-- The body leaves window 2's block as it was fetched. -/
theorem after_2 (c : Dev nD) (t : Fin cfg0.N) : (dats m 0 c).after 2 t = iblk m c 2 t := by dsimp only [dats]
/-- The body leaves window 3's block as it was fetched. -/
theorem after_3 (c : Dev nD) (t : Fin cfg0.N) : (dats m 0 c).after 3 t = iblk m c 3 t := by dsimp only [dats]
/-- The body leaves window 4's block as it was fetched. -/
theorem after_4 (c : Dev nD) (t : Fin cfg0.N) : (dats m 0 c).after 4 t = iblk m c 4 t := by dsimp only [dats]
/-- The body leaves window 5's block as it was fetched. -/
theorem after_5 (c : Dev nD) (t : Fin cfg0.N) : (dats m 0 c).after 5 t = iblk m c 5 t := by dsimp only [dats]
/-- The body leaves window 6's block as it was fetched. -/
theorem after_6 (c : Dev nD) (t : Fin cfg0.N) : (dats m 0 c).after 6 t = iblk m c 6 t := by dsimp only [dats]
/-- The body leaves the predictions in the result's block. -/
theorem after_7 (c : Dev nD) (t : Fin cfg0.N) : (dats m 0 c).after 7 t = outAt m c t := by dsimp only [dats]

/-- The body finds window 0's block in its staging buffer. -/
theorem before_0 (c : Dev nD) (t : Fin cfg0.N) (d) : (dats m 0 c).before 0 t d = iblk m c 0 t := before0_0_of m (dats m 0 c) (A_eq m c 0) (after_0 m c) t d
/-- The body finds window 1's block in its staging buffer. -/
theorem before_1 (c : Dev nD) (t : Fin cfg0.N) (d) : (dats m 0 c).before 1 t d = iblk m c 1 t := before0_1_of m (dats m 0 c) (A_eq m c 1) (after_1 m c) t d
/-- The body finds window 2's block in its staging buffer. -/
theorem before_2 (c : Dev nD) (t : Fin cfg0.N) (d) : (dats m 0 c).before 2 t d = iblk m c 2 t := before0_2_of m (dats m 0 c) (A_eq m c 2) (after_2 m c) t d
/-- The body finds window 3's block in its staging buffer. -/
theorem before_3 (c : Dev nD) (t : Fin cfg0.N) (d) : (dats m 0 c).before 3 t d = iblk m c 3 t := before0_3_of m (dats m 0 c) (A_eq m c 3) (after_3 m c) t d
/-- The body finds window 4's block in its staging buffer. -/
theorem before_4 (c : Dev nD) (t : Fin cfg0.N) (d) : (dats m 0 c).before 4 t d = iblk m c 4 t := before0_4_of m (dats m 0 c) (A_eq m c 4) (after_4 m c) t d
/-- The body finds window 5's block in its staging buffer. -/
theorem before_5 (c : Dev nD) (t : Fin cfg0.N) (d) : (dats m 0 c).before 5 t d = iblk m c 5 t := before0_5_of m (dats m 0 c) (A_eq m c 5) (after_5 m c) t d
/-- The body finds window 6's block in its staging buffer. -/
theorem before_6 (c : Dev nD) (t : Fin cfg0.N) (d) : (dats m 0 c).before 6 t d = iblk m c 6 t := before0_6_of m (dats m 0 c) (A_eq m c 6) (after_6 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- What the body owes of window 0's staging buffer. -/
theorem leaves_0 (c : Dev nD) (t : Fin cfg0.N) : (dats m 0 c).leavesExact 0 t = owns (c : Thread nD τ) (ms0 t) fullShare (iblk m c 0 t) := after_0 m c t ▸ rfl
/-- What the body owes of window 1's staging buffer. -/
theorem leaves_1 (c : Dev nD) (t : Fin cfg0.N) : (dats m 0 c).leavesExact 1 t = owns (c : Thread nD τ) (ms1 t) fullShare (iblk m c 1 t) := after_1 m c t ▸ rfl
/-- What the body owes of window 2's staging buffer. -/
theorem leaves_2 (c : Dev nD) (t : Fin cfg0.N) : (dats m 0 c).leavesExact 2 t = owns (c : Thread nD τ) (ms2 t) fullShare (iblk m c 2 t) := after_2 m c t ▸ rfl
/-- What the body owes of window 3's staging buffer. -/
theorem leaves_3 (c : Dev nD) (t : Fin cfg0.N) : (dats m 0 c).leavesExact 3 t = owns (c : Thread nD τ) (ms3 t) fullShare (iblk m c 3 t) := after_3 m c t ▸ rfl
/-- What the body owes of window 4's staging buffer. -/
theorem leaves_4 (c : Dev nD) (t : Fin cfg0.N) : (dats m 0 c).leavesExact 4 t = owns (c : Thread nD τ) (ms4 t) fullShare (iblk m c 4 t) := after_4 m c t ▸ rfl
/-- What the body owes of window 5's staging buffer. -/
theorem leaves_5 (c : Dev nD) (t : Fin cfg0.N) : (dats m 0 c).leavesExact 5 t = owns (c : Thread nD τ) (ms5 t) fullShare (iblk m c 5 t) := after_5 m c t ▸ rfl
/-- What the body owes of window 6's staging buffer. -/
theorem leaves_6 (c : Dev nD) (t : Fin cfg0.N) : (dats m 0 c).leavesExact 6 t = owns (c : Thread nD τ) (ms6 t) fullShare (iblk m c 6 t) := after_6 m c t ▸ rfl
/-- At an accumulating point the body owes nothing new of the result's staging buffer, -/
theorem leaves_7_lt (c : Dev nD) (t : Fin cfg0.N) (h : t.val < 4) :
    (dats m 0 c).leavesExact 7 t = iprop(∃ d, owns (c : Thread nD τ) (ms7 t) fullShare ((dats m 0 c).before 7 t d)) :=
  Dat.leavesExact_idle (dats m 0 c) 7 t (idle7_lt t h) (by
    have := (flush7 t).not.mpr (by omega); exact Bool.eq_false_iff.mpr this)
/-- at an output point the predictions. -/
theorem leaves_7_ge (c : Dev nD) (t : Fin cfg0.N) (h : 4 ≤ t.val) :
    (dats m 0 c).leavesExact 7 t = owns (c : Thread nD τ) (ms7 t) fullShare (outAt m c t) := by
  unfold Dat.leavesExact; rw [idle7_ge t h, after_7]

/-- What is carried between points. -/
theorem Phi_eq (c : Dev nD) (t : Fin (cfg0.N + 1)) : (dats m 0 c).Φ t = Phi m c t.val := by dsimp only [dats]

set_option maxHeartbeats 3200000 in
/-- The body's triple at every point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [Phi_eq, Phi_eq, leaves_0, leaves_1, leaves_2, leaves_3, leaves_4, leaves_5, leaves_6]
  rw [show (t.castSucc : Fin (cfg0.N + 1)).val = t.val from rfl, show (t.succ : Fin (cfg0.N + 1)).val = t.val + 1 from rfl]
  have hN : t.val < 8 := lt_of_lt_of_eq t.isLt N_eq
  by_cases h4 : 4 ≤ t.val
  · rw [leaves_7_ge m c t h4]
    rw [show Phi m c t.val = iprop(∃ P, ∃ S, ∃ D, ⌜Carried m c t.val P S D⌝ ∗ owns (c : Thread nD τ) mP fullShare P ∗ owns (c : Thread nD τ) mS fullShare S ∗ owns (c : Thread nD τ) mD fullShare D ∗ (∃ r, prngReg c r)) from rfl]
    iintro ⟨⟨%P, %S, %D, %hC, HP, HS, HD, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hO : outAt m c t = k0_pay3 (grid0.coords t) (iblk m c 1 t) D (View.ld (Val := Elt F) (e' := .bf16) P (Rect.unit (s := S32768x256) (k0_off2 (grid0.coords t)) S8192x256.size (k0_off2_inb (grid0.coords t) ((hcond4 t).mpr h4)))) (iblk m c 5 t) (iblk m c 6 t) := by
      rw [px_read m c t h4 P S D hC, hC.dgt h4]; rfl
    rw [hO]
    iapply (runD c (grid0.coords t) _ _ _ _ _ _ _ _ _ _ _ _ _ _ _ _ _ _ _ _ _ _ (fun h => by have := (hcond0 t).mp h; omega) ((hcond4 t).mpr h4) _ _ _ _ _ _ Set.univ _)
    isplitl [H1]; · iexact H1
    isplitl [H5]; · iexact H5
    isplitl [H6]; · iexact H6
    isplitl [H7]; · iexact H7
    isplitl [HP]; · iexact HP
    isplitl [HD]; · iexact HD
    iintro ⟨H1, H5, H6, H7, HP, HD⟩
    isplitl [HP HS HD Hg]
    · unfold Phi; iexists _, _, _; isplitr; swap
      · isplitl [HP]; · iexact HP
        isplitl [HS]; · iexact HS
        isplitl [HD]; · iexact HD
        iexact Hg
      ipureintro; exact carried_out m c _ h4 P S D hC
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h4' : t.val < 4 := by omega
    rw [leaves_7_lt m c t h4']
    rw [show Phi m c t.val = iprop(∃ P, ∃ S, ∃ D, ⌜Carried m c t.val P S D⌝ ∗ owns (c : Thread nD τ) mP fullShare P ∗ owns (c : Thread nD τ) mS fullShare S ∗ owns (c : Thread nD τ) mD fullShare D ∗ (∃ r, prngReg c r)) from rfl]
    iintro ⟨⟨%P, %S, %D, %hC, HP, HS, HD, Hg⟩, Ho, ⟨%d0, H0⟩, ⟨%d1, H1⟩, ⟨%d2, H2⟩, ⟨%d3, H3⟩, ⟨%d4, H4⟩, ⟨%d5, H5⟩, ⟨%d6, H6⟩, H7⟩
    by_cases h0 : t.val = 0
    · have h3 : t.val ≠ 3 := by omega
      have h0' : ¬ t.val ≠ 0 := fun h => h h0
      iapply (runA c (grid0.coords t) _ _ _ _ _ _ _ _ _ _ _ _ _ _ _ _ _ _ _ _ _ _ ((hcond0 t).mpr h4') ((hcond1 t).mpr h0) (fun h => h0' ((hcond2 t).mp h)) (fun h => h3 ((hcond3 t).mp h)) (fun h => h4 ((hcond4 t).mp h)) _ _ _ _ _ _ Set.univ _)
      isplitl [H0]; · iexact H0
      isplitl [H1]; · iexact H1
      isplitl [H2]; · iexact H2
      isplitl [H3]; · iexact H3
      isplitl [HP]; · iexact HP
      isplitl [HS]; · iexact HS
      iintro ⟨H0, H1, H2, H3, HP, HS⟩
      isplitl [HP HS HD Hg]
      · unfold Phi; iexists _, _, _; isplitr; swap
        · isplitl [HP]; · iexact HP
          isplitl [HS]; · iexact HS
          isplitl [HD]; · iexact HD
          iexact Hg
        ipureintro; exact carried_first m c t h0 P S D hC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · by_cases h3 : t.val = 3
      · iapply (runC c (grid0.coords t) _ _ _ _ _ _ _ _ _ _ _ _ _ _ _ _ _ _ _ _ _ _ ((hcond0 t).mpr h4') (fun h => h0 ((hcond1 t).mp h)) ((hcond2 t).mpr h0) ((hcond3 t).mpr h3) (fun h => h4 ((hcond4 t).mp h)) _ _ _ _ _ _ _ _ Set.univ _)
        isplitl [H0]; · iexact H0
        isplitl [H1]; · iexact H1
        isplitl [H2]; · iexact H2
        isplitl [H3]; · iexact H3
        isplitl [H4]; · iexact H4
        isplitl [HP]; · iexact HP
        isplitl [HS]; · iexact HS
        isplitl [HD]; · iexact HD
        iintro ⟨H0, H1, H2, H3, H4, HP, HS, HD⟩
        isplitl [HP HS HD Hg]
        · unfold Phi; iexists _, _, _; isplitr; swap
          · isplitl [HP]; · iexact HP
            isplitl [HS]; · iexact HS
            isplitl [HD]; · iexact HD
            iexact Hg
          ipureintro; exact carried_last m c t h3 P S D hC
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · iapply (runB c (grid0.coords t) _ _ _ _ _ _ _ _ _ _ _ _ _ _ _ _ _ _ _ _ _ _ ((hcond0 t).mpr h4') (fun h => h0 ((hcond1 t).mp h)) ((hcond2 t).mpr h0) (fun h => h3 ((hcond3 t).mp h)) (fun h => h4 ((hcond4 t).mp h)) _ _ _ _ _ _ Set.univ _)
        isplitl [H0]; · iexact H0
        isplitl [H1]; · iexact H1
        isplitl [H2]; · iexact H2
        isplitl [H3]; · iexact H3
        isplitl [HP]; · iexact HP
        isplitl [HS]; · iexact HS
        iintro ⟨H0, H1, H2, H3, HP, HS⟩
        isplitl [HP HS HD Hg]
        · unfold Phi; iexists _, _, _; isplitr; swap
          · isplitl [HP]; · iexact HP
            isplitl [HS]; · iexact HS
            isplitl [HD]; · iexact HD
            iexact Hg
          ipureintro; exact carried_mid m c t h0 (by omega) P S D hC
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body's entry in the table. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What is carried holds before the first point. -/
theorem hin (c : Dev nD) : Pipeline.ΦA spec0 c ⊢ (dats m 0 c).Φ 0 := by
  rw [Phi_eq, PhiA_eq]; unfold Phi
  iintro ⟨⟨⟨%P, HP⟩, ⟨%S, HS⟩, ⟨%D, HD⟩⟩, Hg⟩
  iexists P, S, D
  isplitr
  · ipureintro; exact carried_zero m c P S D
  isplitl [HP]; · iexact HP
  isplitl [HS]; · iexact HS
  isplitl [HD]; · iexact HD
  iexact Hg

/-- What is carried gives the scratch buffers back after the last point. -/
theorem hout (c : Dev nD) : (dats m 0 c).Φ (Fin.last cfg0.N) ⊢ Pipeline.ΦA spec0 c := by
  rw [Phi_eq, PhiA_eq]; unfold Phi
  iintro ⟨%P, %S, %D, -, HP, HS, HD, Hg⟩
  isplitl [HP HS HD]
  · isplitl [HP]; · iexists P; iexact HP
    isplitl [HS]; · iexists S; iexact HS
    iexists D; iexact HD
  iexact Hg

set_option backward.isDefEq.respectTransparency.types false in
/-- The launch: every execution ends, each array at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Same.lean ====
module

public import proofs.«01_k».proof.Defs
public import proofs.«01_k».proof.Proof.Gen.Kernel
public import proofs.«01_k».proof.Proof.Gen.KernelIdeal

/-! # The printed kernel and its idealization are one program

No rewrite was offered, so the two printed texts agree at every instance of the float operations: their buffers, their
labels, their bodies and their main programs are the same terms. A run of the one is therefore a run of the other. -/

@[expose] public section

noncomputable section

namespace Cert.Same

open Idealize.ShloMosaic Idealize.ShloMosaic.TcCoe Idealize.SL.Sem

variable {F : FTy → Type} [FloatOps F]

/-- The two kernels' bodies are one function. -/
theorem body_eq : @Cert.Kernel.cc0__body F _ _ = @Cert.KernelIdeal.cc0__body F _ _ := by
  unfold Cert.Kernel.cc0__body Cert.KernelIdeal.cc0__body
  rfl

/-- The two body tables are one. -/
theorem defs₀_eq : (Cert.Kernel.defs₀ (F := F)) = Cert.KernelIdeal.defs₀ := by
  unfold Cert.Kernel.defs₀ Cert.KernelIdeal.defs₀
  refine congrArg (fun f => Defs.onTc f) ?_
  funext l a
  match l, a with
  | 0, (t, s) =>
    simp only [body_eq]
    rfl

/-- The two tables of labels, the pipeline's among them, are one. -/
theorem defs_eq : (Cert.Kernel.defs (F := F)) = Cert.KernelIdeal.defs := by
  unfold Cert.Kernel.defs Cert.KernelIdeal.defs
  rw [defs₀_eq]
  rfl

/-- The two main programs are one. -/
theorem main_eq : (Cert.Kernel.main (F := F)) = Cert.KernelIdeal.main := rfl

end Cert.Same

end
-- ==== Proof.Math.lean ====
module

public import Idealize.ShloMosaic.Lib.Pointwise
public import Idealize.ShloMosaic.Lib.WordCmp

/-! # Segments, and the network's row on real numbers

The mathematics both programs meet in. A row's segment is the number of prefix sums that do not exceed the row; the rows of
one segment are summed; a row of the result is a two-layer perceptron of the row and of its segment's sum. -/

@[expose] public section

noncomputable section

namespace Cert.Seg

open Idealize.ShloMosaic

/-- A real sum, read among the extended reals, is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One from the row `w` on, zero before it. -/
def step (w : BitVec 32) (n : ℕ) : ℝ := if w.toInt ≤ (n : ℤ) then 1 else 0

/-- The comparison "row `n` is at least `w`", widened and read as a float, is the step at `w`. -/
theorem step_word {n : ℕ} (hn : n < 2 ^ 31) (w : BitVec 32) :
    (FloatOps.sitofp (F := Ideal) .f32 (BitVec.setWidth 32 (IntOp.cmpi .sge (BitVec.ofNat 32 n) w)) : EReal) = ((step w n : ℝ) : EReal) := by
  have e : (BitVec.ofNat 32 n).toInt = (n : ℤ) := by
    rw [BitVec.toInt_eq_toNat_of_lt (by rw [BitVec.toNat_ofNat]; omega), BitVec.toNat_ofNat]; omega
  rw [WordCmp.cmpi_sge_eq, e]
  show (((BitVec.setWidth 32 (BitVec.ofBool (decide (w.toInt ≤ (n : ℤ))))).toInt : ℝ) : EReal) = _
  unfold step
  by_cases h : w.toInt ≤ (n : ℤ)
  · simp [h]
  · simp [h]

/-- Row `x` of block `t`, as the programs compute it, is the word of `8192 t + x`. -/
theorem row_word (t x : ℕ) : IntOp.addi (Scalar.muli (BitVec.ofNat 32 t) 8192#32) (BitVec.ofNat 32 x) = BitVec.ofNat 32 (t * 8192 + x) := by
  show BitVec.ofNat 32 t * 8192#32 + BitVec.ofNat 32 x = _
  rw [BitVec.ofNat_add, BitVec.ofNat_mul]

/-- Row `x` of the block that output point `t` writes is the word of `8192 (t - 4) + x`. -/
theorem row_word' (t x : ℕ) (ht : 4 ≤ t) : IntOp.addi (Scalar.muli (Scalar.subi (BitVec.ofNat 32 t) 4#32) 8192#32) (BitVec.ofNat 32 x) = BitVec.ofNat 32 ((t - 4) * 8192 + x) := by
  have e : Scalar.subi (BitVec.ofNat 32 t) 4#32 = BitVec.ofNat 32 (t - 4) := by
    show BitVec.ofNat 32 t - 4#32 = _
    obtain ⟨k, rfl⟩ := Nat.exists_eq_add_of_le ht
    rw [Nat.add_sub_cancel_left, Nat.add_comm, BitVec.ofNat_add, BitVec.add_sub_cancel]
  rw [e, row_word]

/-- `seg` names each row's segment: the prefix sums at or below the row are the first `seg n`. -/
def IsSeg (pf : Fin 16 → BitVec 32) (seg : Fin 32768 → Fin 16) : Prop :=
  ∀ n b, (pf b).toInt ≤ (n.val : ℤ) ↔ b.val < (seg n).val

/-- Prefix sums that rise and end at or above the number of rows have segments. -/
theorem exists_seg (pf : Fin 16 → BitVec 32) (hmono : ∀ b : Fin 15, (pf b.castSucc).toInt ≤ (pf b.succ).toInt)
    (hlast : 32768 ≤ (pf 15).toInt) : ∃ seg, IsSeg pf seg := by
  have hm : Monotone fun b => (pf b).toInt := Fin.monotone_iff_le_succ.2 hmono
  have hex : ∀ n : Fin 32768, ∃ k, ∃ h : k < 16, (n.val : ℤ) < (pf ⟨k, h⟩).toInt := fun n => ⟨15, by omega, by
    have := n.isLt; show (n.val : ℤ) < (pf 15).toInt; omega⟩
  classical
  refine ⟨fun n => ⟨Nat.find (hex n), (Nat.find_spec (hex n)).1⟩, fun n b => ⟨fun h => ?_, fun h => ?_⟩⟩
  · by_contra hb
    obtain ⟨h16, hs⟩ := Nat.find_spec (hex n)
    have := hm (show (⟨Nat.find (hex n), h16⟩ : Fin 16) ≤ b from Nat.not_lt.1 hb)
    simp only at this
    omega
  · have := Nat.find_min (hex n) h
    by_contra hb
    exact this ⟨b.isLt, by show (n.val : ℤ) < (pf b).toInt; omega⟩

/-- The prefix sums moved on by one, a zero in front. -/
def shift (pf : Fin 16 → BitVec 32) (b : ℕ) (h : b < 16) : BitVec 32 :=
  if h0 : b < 1 then 0#32 else pf ⟨b - 1, by omega⟩

/-- A row's step at a prefix sum tells whether its segment lies beyond that prefix sum's. -/
theorem step_pf {pf : Fin 16 → BitVec 32} {seg : Fin 32768 → Fin 16} (hs : IsSeg pf seg) (n : Fin 32768) (b : Fin 16) :
    step (pf b) n.val = if b.val < (seg n).val then 1 else 0 := by
  unfold step
  simp only [hs n b]

/-- A row's step at a shifted prefix sum tells whether its segment has been reached. -/
theorem step_shift {pf : Fin 16 → BitVec 32} {seg : Fin 32768 → Fin 16} (hs : IsSeg pf seg) (n : Fin 32768) (b : ℕ) (hb : b < 16) :
    step (shift pf b hb) n.val = if b ≤ (seg n).val then 1 else 0 := by
  unfold shift
  by_cases h : b < 1
  · rw [dif_pos h]
    obtain rfl : b = 0 := by omega
    unfold step
    simp
  · rw [dif_neg h, step_pf hs]
    exact if_congr (by show b - 1 < _ ↔ _; omega) rfl rfl

/-- The difference of the two steps picks the rows of one segment. -/
theorem step_diff {pf : Fin 16 → BitVec 32} {seg : Fin 32768 → Fin 16} (hs : IsSeg pf seg) (n : Fin 32768) (b : Fin 16) :
    step (shift pf b.val b.isLt) n.val - step (pf b) n.val = if seg n = b then 1 else 0 := by
  rw [step_shift hs, step_pf hs]
  by_cases h : seg n = b
  · subst h; simp
  · have h' : (seg n).val ≠ b.val := fun e => h (Fin.ext e)
    rw [if_neg h]
    by_cases h1 : b.val < (seg n).val
    · rw [if_pos h1, if_pos h1.le]; norm_num
    · rw [if_neg h1, if_neg (by omega)]; norm_num

/-- The rows' differences, summed from the front, give back the row. -/
theorem sum_range_diff (h : ℕ → ℝ) (s : ℕ) : ∑ b ∈ Finset.range (s + 1), (h b - if b < 1 then 0 else h (b - 1)) = h s := by
  induction s with
  | zero => simp
  | succ s ih => rw [Finset.sum_range_succ, ih]; simp

/-- The steps against the table of differences pick the segment's entry. -/
theorem sum_step_diff {pf : Fin 16 → BitVec 32} {seg : Fin 32768 → Fin 16} (hs : IsSeg pf seg) (n : Fin 32768) (g : Fin 16 → ℝ) :
    ∑ b : Fin 16, step (shift pf b.val b.isLt) n.val * (g b - if h : b.val < 1 then 0 else g ⟨b.val - 1, by omega⟩) = g (seg n) := by
  let h : ℕ → ℝ := fun b => if hb : b < 16 then g ⟨b, hb⟩ else 0
  have e : ∀ b : Fin 16, step (shift pf b.val b.isLt) n.val * (g b - if h : b.val < 1 then 0 else g ⟨b.val - 1, by omega⟩)
      = (fun k : ℕ => if k ≤ (seg n).val then (h k - if k < 1 then 0 else h (k - 1)) else 0) b.val := fun b => by
    rw [step_shift hs]
    have h1 : h b.val = g b := dif_pos b.isLt
    have h2 : h (b.val - 1) = g ⟨b.val - 1, by omega⟩ := dif_pos _
    simp only [h1, h2]
    by_cases hb : b.val ≤ (seg n).val
    · rw [if_pos hb, if_pos hb, one_mul]; congr 1
    · rw [if_neg hb, if_neg hb, zero_mul]
  rw [Finset.sum_congr rfl fun b _ => e b, Fin.sum_univ_eq_sum_range (fun k : ℕ => if k ≤ (seg n).val then (h k - if k < 1 then 0 else h (k - 1)) else 0) 16,
    ← Finset.sum_filter]
  have hf : (Finset.range 16).filter (fun k => k ≤ (seg n).val) = Finset.range ((seg n).val + 1) := by
    ext k
    have := (seg n).isLt
    simp only [Finset.mem_filter, Finset.mem_range]
    omega
  rw [hf, sum_range_diff]
  exact dif_pos (seg n).isLt

/-! ## The network's row -/

/-- The sum of a segment's rows. -/
def pool (X : Fin 32768 → Fin 128 → ℝ) (seg : Fin 32768 → Fin 16) (b : Fin 16) (d : Fin 128) : ℝ := ∑ n, if seg n = b then X n d else 0

/-- The first layer on a row of features, before its bias. -/
def near (X : Fin 32768 → Fin 128 → ℝ) (W : Fin 256 → Fin 256 → ℝ) (n : Fin 32768) (l : Fin 256) : ℝ := ∑ k : Fin 128, X n k * W ⟨k.val, by omega⟩ l

/-- The first layer on a segment's sum, its bias added. -/
def far (X : Fin 32768 → Fin 128 → ℝ) (seg : Fin 32768 → Fin 16) (W : Fin 256 → Fin 256 → ℝ) (v : Fin 256 → ℝ) (b : Fin 16) (l : Fin 256) : ℝ :=
  (∑ k : Fin 128, pool X seg b k * W ⟨128 + k.val, by omega⟩ l) + v l

/-- A row of the result: the second layer on the first layer's rectified values. -/
def outRow (X : Fin 32768 → Fin 128 → ℝ) (seg : Fin 32768 → Fin 16) (W : Fin 256 → Fin 256 → ℝ) (v : Fin 256 → ℝ)
    (U : Fin 256 → EReal) (u : EReal) (n : Fin 32768) : EReal :=
  (∑ l, max (((near X W n l + far X seg W v (seg n) l : ℝ) : EReal)) 0 * U l) + u

/-- A segment's sum, block of rows by block of rows. -/
theorem pool_blocks (X : Fin 32768 → Fin 128 → ℝ) (seg : Fin 32768 → Fin 16) (b : Fin 16) (d : Fin 128) :
    pool X seg b d = ∑ t : Fin 4, ∑ r : Fin 8192, if seg ⟨t.val * 8192 + r.val, by omega⟩ = b then X ⟨t.val * 8192 + r.val, by omega⟩ d else 0 :=
  Fin.sum_univ_tiles 4 8192 rfl _

end Cert.Seg

end
-- ==== Proof.Blocks.lean ====
module

public import proofs.«01_k».proof.Proof.Runs
public import proofs.«01_k».proof.Proof.Math
public import Idealize.ShloMosaic.Lib.Pointwise

/-! # What one grid point computes, at the ideal values

Each stored block read at an index, where the features, the first layer's weights and its bias are real numbers and the
prefix sums have segments. -/

@[expose] public section

noncomputable section

namespace Cert.KernelIdeal.Hand

open Cert.KernelIdeal Cert.KernelIdeal.Gen Cert.Seg
open Idealize.ShloMosaic Idealize.ShloMosaic.TcCoe

variable (X : Fin 32768 → Fin 128 → ℝ) (W : Fin 256 → Fin 256 → ℝ) (v : Fin 256 → ℝ)

/-- The kept product of a block of rows is the first layer's upper half on those rows. -/
theorem pxBlk_real (t : ℕ) (ht : t < 4) (x2 : Vec Ideal S8192x128 .f32) (x3 : Vec Ideal S256x256 .f32)
    (h2 : ∀ (r : Fin 8192) (k : Fin 128), x2 (ix2 r k) = ((X ⟨t * 8192 + r.val, by omega⟩ k : ℝ) : EReal))
    (h3 : ∀ k l : Fin 256, x3 (ix2 k l) = ((W k l : ℝ) : EReal)) (r : Fin 8192) (l : Fin 256) :
    pxBlk (F := Ideal) x2 x3 (ix2 r l) = ((near X W ⟨t * 8192 + r.val, by omega⟩ l : ℝ) : EReal) := by
  unfold pxBlk near
  pointwise [k0_pay5, k0_pay4]
  rw [coe_sum]
  refine Finset.sum_congr rfl fun k _ => ?_
  rw [h2, h3, EReal.coe_mul]

/-- The summand of a block of rows is, per segment, the sum of the block's rows in it. -/
theorem partBlk_real (pf : Fin 16 → BitVec 32) (seg : Fin 32768 → Fin 16) (hs : IsSeg pf seg) (i : grid0.Coords) (t : ℕ) (ht : t < 4) (hi : (i 0).val = t)
    (x0 : Vec Ideal S1x16 .i32) (x1 : Vec Ideal S1x48 .i32) (x2 : Vec Ideal S8192x128 .f32)
    (h0 : ∀ b : Fin 16, x0 (ix2 (0 : Fin 1) b) = pf b) (h1 : ∀ b : Fin 16, x1 (ix2 (0 : Fin 1) ⟨b.val, by omega⟩) = shift pf b.val b.isLt)
    (h2 : ∀ (r : Fin 8192) (k : Fin 128), x2 (ix2 r k) = ((X ⟨t * 8192 + r.val, by omega⟩ k : ℝ) : EReal)) (b : Fin 16) (d : Fin 128) :
    partBlk (F := Ideal) i x0 x1 x2 (ix2 b d)
      = ((∑ r : Fin 8192, if seg ⟨t * 8192 + r.val, by omega⟩ = b then X ⟨t * 8192 + r.val, by omega⟩ d else 0 : ℝ) : EReal) := by
  unfold partBlk
  pointwise [k0_pay6, k0_pay4]
  have key : ∀ x : Fin 8192, (FloatOps.sitofp (F := Ideal) FTy.f32 (BitVec.setWidth 32 (IntOp.cmpi CmpIPredicate.sge
        (IntOp.addi (Scalar.muli (BitVec.ofNat 32 (i 0).val) 8192#32) (BitVec.ofNat 32 x.val)) (x1 (ix2 (0 : Fin 1) ⟨b.val, by omega⟩))))
      - FloatOps.sitofp (F := Ideal) FTy.f32 (BitVec.setWidth 32 (IntOp.cmpi CmpIPredicate.sge
        (IntOp.addi (Scalar.muli (BitVec.ofNat 32 (i 0).val) 8192#32) (BitVec.ofNat 32 x.val)) (x0 (ix2 (0 : Fin 1) b)))) : EReal)
      = (((if seg ⟨t * 8192 + x.val, by omega⟩ = b then 1 else 0 : ℝ)) : EReal) := fun x => by
    rw [hi, row_word, h0, h1, step_word (by omega), step_word (by omega), ← EReal.coe_sub, ← step_diff hs]
  have z : ∀ x : Fin 8192, x2 (ix2 x d) - x2 (ix2 x d) = (0 : EReal) := fun x => by rw [h2, ← EReal.coe_sub, sub_self, EReal.coe_zero]
  simp only [z, mul_zero, Finset.sum_const_zero, add_zero]
  rw [coe_sum]
  refine Finset.sum_congr rfl fun x _ => ?_
  rw [h2, key, ← EReal.coe_mul]
  by_cases h : seg ⟨t * 8192 + x.val, by omega⟩ = b
  · simp [h]
  · simp [h]

/-- The table of differences: its first sixteen rows are the differences of the segments' rows, its other rows zero. -/
theorem dgtBlk_real (seg : Fin 32768 → Fin 16) (S : FVec Ideal S16x128 .f32) (x3 : Vec Ideal S256x256 .f32) (x4 : Vec Ideal S1x256 .f32)
    (hS : ∀ (b : Fin 16) (d : Fin 128), S (ix2 b d) = ((pool X seg b d : ℝ) : EReal))
    (h3 : ∀ k l : Fin 256, x3 (ix2 k l) = ((W k l : ℝ) : EReal)) (h4 : ∀ l : Fin 256, x4 (ix2 (0 : Fin 1) l) = ((v l : ℝ) : EReal)) (j : Fin 48) (l : Fin 256) :
    dgtBlk (F := Ideal) S x3 x4 (ix2 j l)
      = (((if h : j.val < 16 then far X seg W v ⟨j.val, h⟩ l - (if h' : j.val < 1 then 0 else far X seg W v ⟨j.val - 1, by omega⟩ l) else 0 : ℝ)) : EReal) := by
  have hg : ∀ b : Fin 16, ∑ k : Fin 128, S (ix2 b k) * x3 (ix2 ⟨128 + k.val, by omega⟩ l) + x4 (ix2 (0 : Fin 1) l) = ((far X seg W v b l : ℝ) : EReal) := fun b => by
    unfold far
    rw [EReal.coe_add, coe_sum, h4]
    congr 1
    refine Finset.sum_congr rfl fun k _ => ?_
    rw [hS, h3, EReal.coe_mul]
  have hd : ∀ (p : Prop) [Decidable p] (a : ℝ) (f : ¬p → ℝ), ((a : EReal) - if h : p then (0 : EReal) else ((f h : ℝ) : EReal)) = ((a - if h : p then 0 else f h : ℝ) : EReal) := by
    intro p _ a f
    by_cases h : p <;> simp [h]
  unfold dgtBlk
  pointwise [k0_pay2]
  simp only [hg, hd, ← EReal.coe_sub, sub_self, EReal.coe_zero]
  by_cases h : j.val < 16 <;> simp [h]

/-- An output point's block: the network's rows. -/
theorem out_real (pf : Fin 16 → BitVec 32) (seg : Fin 32768 → Fin 16) (hs : IsSeg pf seg) (i : grid0.Coords) (t : ℕ) (ht : 4 ≤ t) (ht8 : t < 8) (hi : (i 0).val = t)
    (x1 : Vec Ideal S1x48 .i32) (D : Vec Ideal S48x256 .f32) (P : Vec Ideal S8192x256 .bf16) (x5 : Vec Ideal S256x1 .f32) (x6 : Vec Ideal S1x1 .f32)
    (h1 : ∀ (a : Fin 3) (b : Fin 16), x1 (ix2 (0 : Fin 1) ⟨a.val * 16 + b.val, by omega⟩) = shift pf b.val b.isLt)
    (hD : ∀ (j : Fin 48) (l : Fin 256), D (ix2 j l)
      = (((if h : j.val < 16 then far X seg W v ⟨j.val, h⟩ l - (if h' : j.val < 1 then 0 else far X seg W v ⟨j.val - 1, by omega⟩ l) else 0 : ℝ)) : EReal))
    (hP : ∀ (r : Fin 8192) (l : Fin 256), P (ix2 r l) = ((near X W ⟨(t - 4) * 8192 + r.val, by omega⟩ l : ℝ) : EReal)) (r : Fin 8192) :
    k0_pay3 (F := Ideal) i x1 D P x5 x6 (ix2 r (0 : Fin 1))
      = outRow X seg W v (fun l => x5 (ix2 l (0 : Fin 1))) (x6 (ix2 (0 : Fin 1) (0 : Fin 1))) ⟨(t - 4) * 8192 + r.val, by omega⟩ := by
  unfold outRow
  pointwise [k0_pay3]
  congr 1
  refine Finset.sum_congr rfl fun l _ => ?_
  congr 2
  rw [hP, EReal.coe_add, hi, row_word' t r.val ht, Fin.sum_univ_tiles 3 16 rfl]
  congr 1
  simp only [step_word (show (t - 4) * 8192 + r.val < 2 ^ 31 by omega), hD, h1, ← EReal.coe_mul, ← coe_sum]
  rw [EReal.coe_eq_coe_iff, Fin.sum_univ_three]
  have key := sum_step_diff hs ⟨(t - 4) * 8192 + r.val, by omega⟩ fun b => far X seg W v b l
  refine (congrArg₂ (· + ·) (congrArg₂ (· + ·) (Eq.trans (Finset.sum_congr rfl fun b _ => ?_) key) (Finset.sum_eq_zero fun b _ => ?_)) (Finset.sum_eq_zero fun b _ => ?_)).trans
    ((add_zero _).trans (add_zero _))
  · simp
  · rw [dif_neg (by show ¬1 * 16 + b.val < 16; omega), mul_zero]
  · rw [dif_neg (by show ¬2 * 16 + b.val < 16; omega), mul_zero]

end Cert.KernelIdeal.Hand
-- ==== Proof.Array.lean ====
module

public import proofs.«01_k».proof.Proof.Pipe
public import proofs.«01_k».proof.Proof.Blocks
public import Idealize.ShloMosaic.Lib.Pipeline.ValueKit

/-! # What the result array holds, at the ideal values -/

@[expose] public section

set_option maxRecDepth 16384

noncomputable section

namespace Cert.KernelIdeal.Hand

open Cert.KernelIdeal Cert.KernelIdeal.Gen Cert.Seg
open Idealize.ShloMosaic Idealize.ShloMosaic.TcCoe Idealize.ShloMosaic.Tactic

variable (m : (ℓ : Loc nD τ sig) → Buf (Elt Ideal) ℓ)

/-! ## The windows' placement -/

/-- Window 0 is its whole array at every point. -/
theorem idx0 : ∀ t : Fin grid0.N, win0_0.index t 0 = 0 ∧ win0_0.index t 1 = 0 := by decide +kernel
/-- Window 1 is its whole array at every point. -/
theorem idx1 : ∀ t : Fin grid0.N, win0_1.index t 0 = 0 ∧ win0_1.index t 1 = 0 := by decide +kernel
/-- An accumulating point's block of features is the point's own. -/
theorem idx2 : ∀ t : Fin grid0.N, t.val < 4 → win0_2.index t 0 = t.val ∧ win0_2.index t 1 = 0 := by decide +kernel
/-- Window 3 is its whole array at every point. -/
theorem idx3 : ∀ t : Fin grid0.N, win0_3.index t 0 = 0 ∧ win0_3.index t 1 = 0 := by decide +kernel
/-- Window 4 is its whole array at every point. -/
theorem idx4 : ∀ t : Fin grid0.N, win0_4.index t 0 = 0 ∧ win0_4.index t 1 = 0 := by decide +kernel
/-- Window 5 is its whole array at every point. -/
theorem idx5 : ∀ t : Fin grid0.N, win0_5.index t 0 = 0 ∧ win0_5.index t 1 = 0 := by decide +kernel
/-- Window 6 is its whole array at every point. -/
theorem idx6 : ∀ t : Fin grid0.N, win0_6.index t 0 = 0 ∧ win0_6.index t 1 = 0 := by decide +kernel
/-- An output point's block of results lies four points back. -/
theorem idx7 : ∀ t : Fin grid0.N, 4 ≤ t.val → win0_7.index t 0 = t.val - 4 ∧ win0_7.index t 1 = 0 := by decide +kernel

/-! ## The blocks read from the arguments -/

/-- The block of features holds the point's own rows, -/
theorem blk2 (c : Dev nD) (t : Fin cfg0.N) (ht : t.val < 4) (r : Fin 8192) (k : Fin 128) :
    iblk m c 2 t (ix2 r k) = m ((c : Thread nD τ).loc main_arg0) (ix2 ⟨t.val * 8192 + r.val, by omega⟩ k) := by
  have h := idx2 t ht
  blk_ext [iblk, V, h]

/-- the first weights' block the whole matrix, -/
theorem blk3 (c : Dev nD) (t : Fin cfg0.N) (k l : Fin 256) :
    iblk m c 3 t (ix2 k l) = m ((c : Thread nD τ).loc main_arg2) (ix2 k l) := by
  blk_ext [iblk, V, idx3 t]

/-- the second weights' block the whole column, -/
theorem blk5 (c : Dev nD) (t : Fin cfg0.N) (l : Fin 256) :
    iblk m c 5 t (ix2 l (0 : Fin 1)) = m ((c : Thread nD τ).loc main_arg4) (ix2 l (0 : Fin 1)) := by
  blk_ext [iblk, V, idx5 t]

/-- the prefix sums' block all of them, -/
theorem blk0 (c : Dev nD) (t : Fin cfg0.N) (b : Fin 16) :
    iblk m c 0 t (ix2 (0 : Fin 1) b) = m ((c : Thread nD τ).loc main_arg1) (ix1 b) := by
  blk_ext! [iblk, V, idx0 t]

/-- the first bias' block the whole row, -/
theorem blk4 (c : Dev nD) (t : Fin cfg0.N) (l : Fin 256) :
    iblk m c 4 t (ix2 (0 : Fin 1) l) = m ((c : Thread nD τ).loc main_arg3) (ix1 l) := by
  blk_ext! [iblk, V, idx4 t]

/-- and the second bias' block its one value. -/
theorem blk6 (c : Dev nD) (t : Fin cfg0.N) :
    iblk m c 6 t (ix2 (0 : Fin 1) (0 : Fin 1)) = m ((c : Thread nD τ).loc main_arg5) (ix1 (0 : Fin 1)) := by
  blk_ext! [iblk, V, idx6 t]

/-- The launch's prefix sums, led by zero, three times in a row. -/
theorem table_eq (c : Dev nD) : V m c main_call0_v6 =
    shapeCast S1x48 (broadcastInDim S1x1x3x16 ![0, 1, 2, 3] bcast_S1x1x1x16_S1x1x3x16_0_1_2_3
      (shapeCast S1x1x1x16 (concatenate S1x16 1 [⟨S1x1, broadcastInDim S1x1 ![] bcast_S_S1x1 (constantI S_ 32 0#32)⟩,
        ⟨S1x15, extractStridedSlice S1x15 ![0, 0]
          (shapeCast S1x16 (show IVec S16 32 from m ((c : Thread nD τ).loc main_arg1)) shapeCasts_S16_S1x16) slices_S1x16_S1x15_0_0⟩]
        concatenates_S1x1_S1x15_S1x16_d1) shapeCasts_S1x16_S1x1x1x16)) shapeCasts_S1x1x3x16_S1x48 := by
  entry_read
  rfl

/-- At each repetition it holds the shifted prefix sums. -/
theorem table (c : Dev nD) (a : Fin 3) (b : Fin 16) :
    V m c main_call0_v6 (ix2 (0 : Fin 1) ⟨a.val * 16 + b.val, by omega⟩)
      = shift (fun b => m ((c : Thread nD τ).loc main_arg1) (ix1 b)) b.val b.isLt := by
  rw [table_eq]
  unfold shift
  pointwise

/-- The table's block is the whole table. -/
theorem blk1 (c : Dev nD) (t : Fin cfg0.N) (q : Fin 48) :
    iblk m c 1 t (ix2 (0 : Fin 1) q) = V m c main_call0_v6 (ix2 (0 : Fin 1) q) := by
  blk_ext [iblk, idx1 t]

/-! ## The carried values -/

/-- A point's coordinate is its number. -/
theorem coords0 : ∀ t : Fin grid0.N, (grid0.coords t 0).val = t.val := by decide +kernel

/-- There are eight points. -/
theorem lt8 (t : Fin cfg0.N) : t.val < 8 := lt_of_lt_of_eq t.isLt N_eq

/-- The carried sum starts at the first summand, -/
theorem acc_zero (c : Dev nD) (h : 0 < cfg0.N) (b : Fin 16) (d : Fin 128) : accAt m c 0 h (ix2 b d) = partAt m c ⟨0, h⟩ (ix2 b d) := by
  unfold accAt
  generalize partAt m c ⟨0, h⟩ = x
  pointwise

/-- the update adds, -/
theorem add_at (x y : FVec Ideal S16x128 .f32) (b : Fin 16) (d : Fin 128) : k0_pay1 x y (ix2 b d) = y (ix2 b d) + x (ix2 b d) := by
  pointwise [k0_pay1]

/-- so that it takes in the next summand at each later point. -/
theorem acc_succ (c : Dev nD) (n : ℕ) (h : n + 1 < cfg0.N) (b : Fin 16) (d : Fin 128) :
    accAt m c (n + 1) h (ix2 b d) = accAt m c n (by omega) (ix2 b d) + partAt m c ⟨n + 1, h⟩ (ix2 b d) := add_at _ _ b d

variable (c : Dev nD) (X : Fin 32768 → Fin 128 → ℝ) (W : Fin 256 → Fin 256 → ℝ) (v : Fin 256 → ℝ) (seg : Fin 32768 → Fin 16)

/-- The arguments of a launch whose features, first weights and first bias are the reals `X`, `W`, `v`, and whose prefix
sums have the segments `seg`. -/
structure Given : Prop where
  hX : ∀ n k, m ((c : Thread nD τ).loc main_arg0) (ix2 n k) = ((X n k : ℝ) : EReal)
  hW : ∀ k l, m ((c : Thread nD τ).loc main_arg2) (ix2 k l) = ((W k l : ℝ) : EReal)
  hv : ∀ l, m ((c : Thread nD τ).loc main_arg3) (ix1 l) = ((v l : ℝ) : EReal)
  hs : IsSeg (fun b => m ((c : Thread nD τ).loc main_arg1) (ix1 b)) seg

variable {m c X W v seg} (G : Given m c X W v seg)
include G

/-- The product kept at an accumulating point. -/
theorem pxAt_real (t : Fin cfg0.N) (ht : t.val < 4) (r : Fin 8192) (l : Fin 256) :
    pxAt m c t (ix2 r l) = ((near X W ⟨t.val * 8192 + r.val, by omega⟩ l : ℝ) : EReal) :=
  pxBlk_real X W t.val ht _ _ (fun r k => (blk2 m c t ht r k).trans (G.hX _ _)) (fun k l => (blk3 m c t k l).trans (G.hW _ _)) r l

/-- The summand of an accumulating point. -/
theorem partAt_real (t : Fin cfg0.N) (ht : t.val < 4) (b : Fin 16) (d : Fin 128) :
    partAt m c t (ix2 b d)
      = ((∑ r : Fin 8192, if seg ⟨t.val * 8192 + r.val, by omega⟩ = b then X ⟨t.val * 8192 + r.val, by omega⟩ d else 0 : ℝ) : EReal) :=
  partBlk_real X _ seg G.hs _ t.val ht (coords0 t) _ _ _ (blk0 m c t) (fun b => (blk1 m c t _).trans (by
    have := table m c 0 b
    simpa using this)) (fun r k => (blk2 m c t ht r k).trans (G.hX _ _)) b d

/-- After the fourth point the carried sum is the segments' sums. -/
theorem acc_real (b : Fin 16) (d : Fin 128) : accAt m c 3 t3.isLt (ix2 b d) = ((pool X seg b d : ℝ) : EReal) := by
  rw [pool_blocks, Fin.sum_univ_four, acc_succ m c 2, acc_succ m c 1, acc_succ m c 0, acc_zero,
    partAt_real G _ (by show (0 : ℕ) < 4; omega), partAt_real G _ (by show (1 : ℕ) < 4; omega),
    partAt_real G _ (by show (2 : ℕ) < 4; omega), partAt_real G _ (by show (3 : ℕ) < 4; omega)]
  simp only [EReal.coe_add]
  rfl

/-- The table of differences. -/
theorem dgt_real (j : Fin 48) (l : Fin 256) : dgtAt m c (ix2 j l)
    = ((if h : j.val < 16 then far X seg W v ⟨j.val, h⟩ l - (if h' : j.val < 1 then 0 else far X seg W v ⟨j.val - 1, by omega⟩ l) else 0 : ℝ) : EReal) :=
  dgtBlk_real X W v seg _ _ _ (acc_real G) (fun k l => (blk3 m c t3 k l).trans (G.hW _ _)) (fun l => (blk4 m c t3 l).trans (G.hv _)) j l

/-- What an output point stores. -/
theorem outAt_real (t : Fin cfg0.N) (ht : 4 ≤ t.val) (r : Fin 8192) : outAt m c t (ix2 r (0 : Fin 1))
    = outRow X seg W v (fun l => m ((c : Thread nD τ).loc main_arg4) (ix2 l (0 : Fin 1))) (m ((c : Thread nD τ).loc main_arg5) (ix1 (0 : Fin 1)))
        ⟨(t.val - 4) * 8192 + r.val, by have := lt8 t; omega⟩ := by
  have h8 : t.val < 8 := lt8 t
  have h := out_real X W v _ seg G.hs (grid0.coords t) t.val ht h8 (coords0 t) (iblk m c 1 t) (dgtAt m c)
    (pxAt m c ⟨t.val - 4, lt_of_le_of_lt (Nat.sub_le _ _) t.isLt⟩) (iblk m c 5 t) (iblk m c 6 t) (fun a b => (blk1 m c t _).trans (table m c a b))
    (dgt_real G) (fun r l => pxAt_real G _ (by show t.val - 4 < 4; omega) r l) r
  rw [show (fun l => iblk m c 5 t (ix2 l (0 : Fin 1))) = _ from funext (blk5 m c t), blk6 m c t] at h
  exact h

/-! ## The result array -/

/-- The kernel's result: every row's prediction. -/
def result (m : (ℓ : Loc nD τ sig) → Buf (Elt Ideal) ℓ) (c : Dev nD) (X : Fin 32768 → Fin 128 → ℝ) (W : Fin 256 → Fin 256 → ℝ) (v : Fin 256 → ℝ)
    (seg : Fin 32768 → Fin 16) : FVec Ideal S32768x1 .f32 := fun i =>
  outRow X seg W v (fun l => m ((c : Thread nD τ).loc main_arg4) (ix2 l (0 : Fin 1))) (m ((c : Thread nD τ).loc main_arg5) (ix1 (0 : Fin 1))) (i 0)

/-- What an output point stores, at any index of its block. -/
theorem outAt_any (t : Fin cfg0.N) (ht : 4 ≤ t.val) (j : S8192x1.Idx) (n : Fin 32768) (hn : n.val = (t.val - 4) * 8192 + (j 0).val) : outAt m c t j
    = outRow X seg W v (fun l => m ((c : Thread nD τ).loc main_arg4) (ix2 l (0 : Fin 1))) (m ((c : Thread nD τ).loc main_arg5) (ix1 (0 : Fin 1))) n := by
  let q : Fin 8192 := j 0
  have hj : j = ix2 q (0 : Fin 1) := by
    funext a
    match a with
    | ⟨0, _⟩ => rfl
    | ⟨1, _⟩ => exact Subsingleton.elim (α := Fin 1) _ _
  rw [hj, outAt_real G t ht]
  congr 1
  exact Fin.ext hn.symm

/-- Every output point writes the result's own rows back. -/
theorem flushed_eq (t : Fin cfg0.N) (hf : (cfg0.win 7).flush t = true) :
    (dats m 0 c).flushed 7 t = ((cfg0.win 7).blk t).view.read (Elt Ideal) (result m c X W v seg) := by
  have ht : 4 ≤ t.val := (flush7 t).mp hf
  show (cfg0.win 7).cut (grid0.coords t) ((dats m 0 c).after 7 t) = _
  rw [after_7]
  funext j
  rw [View.read_apply]
  obtain ⟨hj0, hj1⟩ := idx7 t ht
  refine outAt_any G t ht j _ ?_
  show win0_7.index t 0 * 8192 + 1 * (j 0).val = (t.val - 4) * 8192 + (j 0).val
  rw [hj0]; omega

/-- The result array after the run. -/
theorem final_o : (dats m 0 c).arrAt 7 cfg0.N = result m c X W v seg :=
  (dats m 0 c).arrAt_eq_of_cover 7 (result m c X W v seg) (flushed_eq G) fun i => by
    have hi : (i 0 : ℕ) < 32768 := (i 0).isLt
    have hi1 : (i 1 : ℕ) < 1 := (i 1).isLt
    let t : Fin cfg0.N := ⟨(i 0 : ℕ) / 8192 + 4, lt_of_lt_of_eq (by omega) N_eq.symm⟩
    have ht : 4 ≤ t.val := Nat.le_add_left _ _
    obtain ⟨hj0, hj1⟩ := idx7 t ht
    refine ⟨t, (flush7 t).mpr ht, ?_⟩
    show i ∈ ((View.whole main_v0).slice (win0_7.rect t)).set
    rw [View.set_slice_whole, Rect.mem_set_unit]
    intro a
    match a with
    | ⟨0, _⟩ =>
      show win0_7.index t 0 * 8192 ≤ (i 0 : ℕ) ∧ (i 0 : ℕ) < win0_7.index t 0 * 8192 + 8192
      have : t.val - 4 = (i 0 : ℕ) / 8192 := Nat.add_sub_cancel _ _
      rw [hj0, this]; omega
    | ⟨1, _⟩ =>
      show win0_7.index t 1 * 1 ≤ (i 1 : ℕ) ∧ (i 1 : ℕ) < win0_7.index t 1 * 1 + 1
      rw [hj1]; omega

omit G in
/-- Every execution ends with the predictions in the result, the arguments as they were. -/
theorem run_value (ρ : Dev nD → PrngReg) (X : Dev nD → Fin 32768 → Fin 128 → ℝ) (W : Dev nD → Fin 256 → Fin 256 → ℝ) (v : Dev nD → Fin 256 → ℝ)
    (seg : Dev nD → Fin 32768 → Fin 16) (G : ∀ c, Given m c (X c) (W c) (v c) (seg c)) :
    θ_run (defs (F := Ideal)) (onTc (τ := τ) (main (F := Ideal))) ⟨m, fun _ => 0, ρ⟩ (fun r => ∀ c : Dev nD,
      r.2.mem ((c.tc : Thread nD τ).loc main_v0) = result m c (X c) (W c) (v c) (seg c)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 7).trans (final_o (G c)), (h.2.1 c).2.1, h.2.1 c⟩)
    (θ_run_and (run_main m ρ) (frame m ρ))

end Cert.KernelIdeal.Hand
-- ==== Proof.Ref.lean ====
module

public import proofs.«01_k».proof.Proof.Array
public import proofs.«01_k».proof.Proof.Gen.ReferenceIdeal.Run
public import Idealize.ShloMosaic.Lib.Routing.Ops
public import Idealize.ShloMosaic.Lib.Routing.OpsPair
public import Idealize.ShloMosaic.Lib.IndicatorCount
public import Idealize.ShloMosaic.Lib.Pointwise.Index

/-! # What the reference computes, at the ideal values -/

@[expose] public section

set_option maxRecDepth 16384

noncomputable section

namespace Cert.ReferenceIdeal.Hand

open Cert.ReferenceIdeal Cert.ReferenceIdeal.Gen Cert.Seg
open Idealize.ShloMosaic Idealize.ShloMosaic.TcCoe Idealize.ShloMosaic.Tactic

/-! ## The reference's values, named -/

/-- Every node's count of the prefix sums not above it, clipped to the segments. -/
def segW (a1 : IVec S16 32) : IVec S32768 32 :=
  minsi (broadcastInDim S32768 ![] bcast_S_S32768 (id (constantI S_ 32 15#32)))
    (maxsi (broadcastInDim S32768 ![] bcast_S_S32768 (id (constantI S_ 32 0#32)))
      (Host.reduce IntOp.addi (extui 32 (cmpi .sle
        (broadcastInDim S32768x16 ![0, 1] bcast_S1x16_S32768x16_0_1 (broadcastInDim S1x16 ![1] bcast_S16_S1x16_1 a1))
        (broadcastInDim S32768x16 ![0, 1] bcast_S32768x1_S32768x16_0_1 (broadcastInDim S32768x1 ![0] bcast_S32768_S32768x1_0 (iotaInDim S32768 32 0))))
        natLt_1_32) (constantI S_ 32 0#32) reducesTo_S32768x16_S32768_d1 h_S_))

/-- The column of row numbers looked up. -/
def idxW (s : IVec S32768 32) : IVec S32768x1 32 :=
  broadcastInDim S32768x1 ![0] bcast_S32768_S32768x1_0
    (select (cmpi .slt s (broadcastInDim S32768 ![] bcast_S_S32768 (constantI S_ 32 0#32)))
      (addi s (broadcastInDim S32768 ![] bcast_S_S32768 (constantI S_ 32 16#32))) s)

/-- Whether a looked up row number is a row. -/
def maskW (i : IVec S32768x1 32) : IVec S32768x128 1 :=
  broadcastInDim S32768x128 ![0] bcast_S32768_S32768x128_0
    (Host.reduce IntOp.andi (andi (cmpi .sge i (broadcastInDim S32768x1 ![] bcast_S_S32768x1 (constantI S_ 32 0#32)))
      (cmpi .sle i (broadcastInDim S32768x1 ![0, 1] bcast_S1x1_S32768x1_0_1 (broadcastInDim S1x1 ![1] bcast_S1_S1x1_1 (constantI S1 32 15#32)))))
      (constantI S_ 1 1#1) reducesTo_S32768x1_S32768_d1 h_S_)

/-- The segments' sums. -/
def poolF (s : IVec S32768 32) (x : FVec Ideal S32768x128 .f32) : FVec Ideal S16x128 .f32 :=
  Host.scatterAdd scatter_S16x128_S32768x1_S32768x128_1_0_0_1 (broadcastInDim S16x128 ![] bcast_S_S16x128 (constant S_ .f32 0x00000000#32))
    (broadcastInDim S32768x1 ![0] bcast_S32768_S32768x1_0 s) x

/-- Every node's segment's sum. -/
def takeF (p : FVec Ideal S16x128 .f32) (i : IVec S32768x1 32) : FVec Ideal S32768x128 .f32 :=
  select (maskW i) (Host.gather gather_S16x128_S32768x1_S32768x128_1_0_n_n_0_1_1128 p i)
    (broadcastInDim S32768x128 ![] bcast_S_S32768x128 (constant S_ .f32 0x7FC00000#32))

/-- The perceptron. -/
def mlpF (x y : FVec Ideal S32768x128 .f32) (w : FVec Ideal S256x256 .f32) (v : FVec Ideal S256 .f32) (u : FVec Ideal S256x1 .f32) (z : FVec Ideal S1 .f32) :
    FVec Ideal S32768x1 .f32 :=
  addf (Host.dotGeneral dot_S32768x256_S256x1_S32768x1_1_0_0_1_n_n none
    (maximumf (addf (Host.dotGeneral dot_S32768x256_S256x256_S32768x256_1_0_0_1_n_n none
        (concatenate S32768x256 1 [⟨S32768x128, x⟩, ⟨S32768x128, y⟩] concatenates_S32768x128_S32768x128_S32768x256_d1) w)
      (broadcastInDim S32768x256 ![0, 1] bcast_S1x256_S32768x256_0_1 (broadcastInDim S1x256 ![1] bcast_S256_S1x256_1 v)))
      (broadcastInDim S32768x256 ![] bcast_S_S32768x256 (constant S_ .f32 0x00000000#32))) u)
    (broadcastInDim S32768x1 ![0, 1] bcast_S1x1_S32768x1_0_1 (broadcastInDim S1x1 ![1] bcast_S1_S1x1_1 z))

variable (m : (ℓ : Loc nD τ sig) → Buf (Elt Ideal) ℓ)

/-- The reference's first result is the perceptron on the features and their segments' sums. -/
theorem res_eq (c : Dev nD) : Value.res_main_v22 m c =
    mlpF (m ((c.tc : Thread nD τ).loc main_arg0))
      (takeF (poolF (segW (m ((c.tc : Thread nD τ).loc main_arg1))) (m ((c.tc : Thread nD τ).loc main_arg0))) (idxW (segW (m ((c.tc : Thread nD τ).loc main_arg1)))))
      (m ((c.tc : Thread nD τ).loc main_arg2)) (m ((c.tc : Thread nD τ).loc main_arg3)) (m ((c.tc : Thread nD τ).loc main_arg4)) (m ((c.tc : Thread nD τ).loc main_arg5)) := rfl

/-! ## The row numbers -/

/-- Below sixteen `k` there are `k` numbers. -/
theorem card_lt : ∀ k : Fin 16, (Finset.univ.filter fun b : Fin 16 => b.val < k.val).card = k.val := by decide

variable {seg : Fin 32768 → Fin 16}

/-- A node's number, read signed from its word. -/
theorem word_toInt (n : Fin 32768) : (BitVec.ofNat 32 n.val).toInt = (n.val : ℤ) := by
  rw [BitVec.toInt_eq_toNat_of_lt (by rw [BitVec.toNat_ofNat]; omega), BitVec.toNat_ofNat]; omega

/-- A node's clipped count is its segment. -/
theorem segW_at (a1 : IVec S16 32) (hs : IsSeg (fun b => a1 (ix1 b)) seg) (n : Fin 32768) : segW a1 (ix1 n) = BitVec.ofNat 32 (seg n).val := by
  unfold segW
  pointwise
  have hc : (Finset.univ.filter fun b : Fin 16 => IntOp.cmpi .sle (a1 (ix1 b)) (BitVec.ofNat 32 n.val) = 1#1).card = (seg n).val := by
    rw [← card_lt (seg n)]
    refine congrArg Finset.card (Finset.filter_congr fun b _ => ?_)
    rw [← hs n b, WordCmp.cmpi_sle_eq, word_toInt n]
    by_cases h : (a1 (ix1 b)).toInt ≤ (n.val : ℤ) <;> simp [h]
  rw [IndicatorCount.fold_addi_setWidth_eq_card, hc]
  show IntOp.minsi 15#32 (IntOp.maxsi 0#32 _) = _
  generalize seg n = k
  revert k
  decide

/-- The wrap for negative numbers leaves a segment as it is. -/
theorem idxW_at (s : IVec S32768 32) (hs : ∀ n, s (ix1 n) = BitVec.ofNat 32 (seg n).val) (n : Fin 32768) :
    idxW s (ix2 n (0 : Fin 1)) = BitVec.ofNat 32 (seg n).val := by
  unfold idxW
  pointwise
  rw [hs]
  generalize seg n = k
  revert k
  decide

/-- A segment is a row. -/
theorem maskW_at (i : IVec S32768x1 32) (hi : ∀ n, i (ix2 n (0 : Fin 1)) = BitVec.ofNat 32 (seg n).val) (n : Fin 32768) (d : Fin 128) :
    maskW i (ix2 n d) = 1#1 := by
  unfold maskW
  pointwise
  rw [show (Finset.univ : Finset (Fin 1)) = {0} from rfl, Finset.fold_singleton, hi]
  generalize seg n = k
  revert k
  decide

/-! ## The sums and the perceptron -/

/-- A node's features land in the row its word names, at their own column. -/
theorem lands (idx : IVec S32768x1 32) (n : Fin 32768) (k : Fin 128) (b : Fin 16) (d : Fin 128) :
    scatter_S16x128_S32768x1_S32768x128_1_0_0_1.resultIdx? (ix2 n k) idx = some (ix2 b d)
      ↔ (idx (ix2 n (0 : Fin 1))).toInt = (b.val : ℤ) ∧ k = d := by
  have hw0 : scatter_S16x128_S32768x1_S32768x128_1_0_0_1.window (ix2 n k) 0 = 0 := rfl
  have hw1 : scatter_S16x128_S32768x1_S32768x128_1_0_0_1.window (ix2 n k) 1 = k.val := rfl
  have hs1 : scatter_S16x128_S32768x1_S32768x128_1_0_0_1.start (ix2 n k) idx 1 = 0 := rfl
  have hs0 : scatter_S16x128_S32768x1_S32768x128_1_0_0_1.start (ix2 n k) idx 0 = (idx (ix2 n (0 : Fin 1))).toInt := by
    show (idx _).toInt = _
    congr 2
    funext a
    match a with
    | ⟨0, _⟩ => rfl
    | ⟨1, _⟩ => rfl
  have e := Routing.resultIdx?_eq_some scatter_S16x128_S32768x1_S32768x128_1_0_0_1 (ix2 n k) idx (ix2 b d)
  refine e.trans ⟨fun h => ?_, fun h a => ?_⟩
  · have h0 : _ = (b.val : ℤ) := h 0
    have h1 : _ = (d.val : ℤ) := h 1
    rw [hs0, hw0] at h0
    rw [hs1, hw1] at h1
    rw [Fin.ext_iff]
    omega
  · match a with
    | ⟨0, _⟩ =>
      refine (congrArg₂ (fun (p : ℤ) (q : ℕ) => p + (q : ℤ)) hs0 hw0).trans ?_
      show _ = (b.val : ℤ)
      rw [h.1]; simp
    | ⟨1, _⟩ =>
      refine (congrArg₂ (fun (p : ℤ) (q : ℕ) => p + (q : ℤ)) hs1 hw1).trans ?_
      show _ = (d.val : ℤ)
      rw [h.2]; simp

variable {X : Fin 32768 → Fin 128 → ℝ} {W : Fin 256 → Fin 256 → ℝ} {v : Fin 256 → ℝ}

/-- The scattered sums are the segments' sums. -/
theorem poolF_at (s : IVec S32768 32) (hs : ∀ n, s (ix1 n) = BitVec.ofNat 32 (seg n).val) (x : FVec Ideal S32768x128 .f32)
    (hx : ∀ n k, x (ix2 n k) = ((X n k : ℝ) : EReal)) (b : Fin 16) (d : Fin 128) : poolF s x (ix2 b d) = ((Seg.pool X seg b d : ℝ) : EReal) := by
  unfold poolF Seg.pool
  have hcol : ∀ n : Fin 32768, (broadcastInDim S32768x1 ![0] bcast_S32768_S32768x1_0 s (ix2 n (0 : Fin 1))).toInt = ((seg n).val : ℤ) := fun n => by
    have h : broadcastInDim S32768x1 ![0] bcast_S32768_S32768x1_0 s (ix2 n (0 : Fin 1)) = s (ix1 n) := by pointwise
    rw [h, hs]
    generalize seg n = k
    revert k
    decide
  generalize broadcastInDim S32768x1 ![0] bcast_S32768_S32768x1_0 s = idx at hcol
  have hz : broadcastInDim S16x128 ![] bcast_S_S16x128 (constant (F := Ideal) S_ .f32 0x00000000#32) (ix2 b d) = (0 : EReal) := by pointwise
  show broadcastInDim S16x128 ![] bcast_S_S16x128 (constant (F := Ideal) S_ .f32 0x00000000#32) (ix2 b d)
    + ∑ j ∈ Finset.univ.filter (fun j => scatter_S16x128_S32768x1_S32768x128_1_0_0_1.resultIdx? j idx = some (ix2 b d)), x j = _
  rw [hz, zero_add, Finset.sum_filter, sum_idx2, coe_sum]
  refine Finset.sum_congr rfl fun n _ => ?_
  have hl : ∀ k : Fin 128, scatter_S16x128_S32768x1_S32768x128_1_0_0_1.resultIdx? (ix2 n k) idx = some (ix2 b d) ↔ seg n = b ∧ k = d := fun k => by
    rw [lands, hcol, Nat.cast_inj, ← Fin.ext_iff]
  by_cases hb : seg n = b
  · refine (Finset.sum_eq_single d (fun k _ hk => if_neg fun h => hk ((hl k).mp h).2) (fun h => absurd (Finset.mem_univ d) h)).trans ?_
    rw [if_pos hb]
    exact (if_pos ((hl d).mpr ⟨hb, rfl⟩)).trans (hx n d)
  · rw [if_neg hb]
    exact Finset.sum_eq_zero fun k _ => if_neg fun h => hb ((hl k).mp h).1

/-- A node looks up its own segment's sum. -/
theorem takeF_at (p : FVec Ideal S16x128 .f32) (i : IVec S32768x1 32) (hi : ∀ n, i (ix2 n (0 : Fin 1)) = BitVec.ofNat 32 (seg n).val)
    (n : Fin 32768) (d : Fin 128) : takeF p i (ix2 n d) = p (ix2 (seg n) d) := by
  unfold takeF
  pointwise
  rw [maskW_at i hi]
  have h : Host.gather gather_S16x128_S32768x1_S32768x128_1_0_n_n_0_1_1128 p i (ix2 n d) = p (ix2 (seg n) d) :=
    Routing.gather_row _ rfl rfl rfl rfl rfl p i n d (seg n) (hi n) (by omega)
  rw [h]
  rfl

/-- The perceptron on finite rows. -/
theorem mlpF_at (x y : FVec Ideal S32768x128 .f32) (w : FVec Ideal S256x256 .f32) (z : FVec Ideal S256 .f32) (u : FVec Ideal S256x1 .f32) (o : FVec Ideal S1 .f32)
    (hx : ∀ n k, x (ix2 n k) = ((X n k : ℝ) : EReal)) (hy : ∀ n k, y (ix2 n k) = ((Seg.pool X seg (seg n) k : ℝ) : EReal))
    (hw : ∀ k l, w (ix2 k l) = ((W k l : ℝ) : EReal)) (hz : ∀ l, z (ix1 l) = ((v l : ℝ) : EReal))
    (n : Fin 32768) : mlpF x y w z u o (ix2 n (0 : Fin 1)) = outRow X seg W v (fun l => u (ix2 l (0 : Fin 1))) (o (ix1 (0 : Fin 1))) n := by
  unfold mlpF outRow near far
  pointwise
  refine congrArg (· + _) (Finset.sum_congr rfl fun l _ => congrArg (fun e => max e 0 * u (ix2 l (0 : Fin 1))) ?_)
  simp only [hx, hy, hw, hz, EReal.coe_add, coe_sum, EReal.coe_mul, add_assoc]

/-- The reference's first result is every row's prediction. -/
theorem res_real (c : Dev nD) (hX : ∀ n k, m ((c.tc : Thread nD τ).loc main_arg0) (ix2 n k) = ((X n k : ℝ) : EReal))
    (hW : ∀ k l, m ((c.tc : Thread nD τ).loc main_arg2) (ix2 k l) = ((W k l : ℝ) : EReal))
    (hv : ∀ l, m ((c.tc : Thread nD τ).loc main_arg3) (ix1 l) = ((v l : ℝ) : EReal))
    (hs : IsSeg (fun b => m ((c.tc : Thread nD τ).loc main_arg1) (ix1 b)) seg) (n : Fin 32768) : Value.res_main_v22 m c (ix2 n (0 : Fin 1))
      = outRow X seg W v (fun l => m ((c.tc : Thread nD τ).loc main_arg4) (ix2 l (0 : Fin 1))) (m ((c.tc : Thread nD τ).loc main_arg5) (ix1 (0 : Fin 1))) n := by
  rw [res_eq]
  have hsw := segW_at _ hs
  exact mlpF_at _ _ _ _ _ _ hX (fun n k => (takeF_at _ _ (idxW_at _ hsw) n k).trans (poolF_at _ hsw _ hX _ _)) hW hv n

end Cert.ReferenceIdeal.Hand
-- ==== Proof.Pre.lean ====
module

public import proofs.«01_k».proof.Proof.Ref
public import proofs.«01_k».proof.Pre_finite_sorted
public import Idealize.ShloMosaic.Lib.Affine
public import Idealize.ShloMosaic.Lib.ReduceAll

/-! # What the precondition says of the arguments -/

@[expose] public section

noncomputable section

namespace Cert.Pre_finite_sorted.Hand

open Cert.Pre_finite_sorted Cert.Pre_finite_sorted.Facts
open Idealize.ShloMosaic

variable [Cert.Pre_finite_sorted.Facts]

/-- An extended real whose magnitude lies below infinity is a real. -/
theorem real_of_lt (x : EReal) (h : Ideal.cmp .olt (max x (-x)) (Ideal.ofBits .f32 0x7F800000#32) = 1#1) : ∃ r : ℝ, x = (r : EReal) := by
  have e : Ideal.ofBits .f32 0x7F800000#32 = ⊤ := by
    unfold Ideal.ofBits
    unfold Ideal.ieee
    simp
  rw [e] at h
  have h' : max x (-x) < ⊤ := by
    by_contra hn
    simp [Ideal.cmp, hn] at h
  have ht : x ≠ ⊤ := fun e => by simp [e] at h'
  have hb : x ≠ ⊥ := fun e => by simp [e] at h'
  exact ⟨x.toReal, (EReal.coe_toReal ht hb).symm⟩

/-- The features, the first weights and the first bias are reals; the prefix sums rise and end at or above the number of nodes. -/
theorem facts_of_pre (a0 : FVec Ideal S32768x128 .f32) (a1 : IVec S16 32) (a2 : FVec Ideal S256x256 .f32) (a3 : FVec Ideal S256 .f32)
    (a4 : FVec Ideal S256x1 .f32) (a5 : FVec Ideal S1 .f32) (h : fn (F := Ideal) a0 a1 a2 a3 a4 a5 = fun _ => 1#1) :
    (∃ X : Fin 32768 → Fin 128 → ℝ, ∀ n k, a0 (ix2 n k) = ((X n k : ℝ) : EReal))
    ∧ (∃ W : Fin 256 → Fin 256 → ℝ, ∀ k l, a2 (ix2 k l) = ((W k l : ℝ) : EReal))
    ∧ (∃ v : Fin 256 → ℝ, ∀ l, a3 (ix1 l) = ((v l : ℝ) : EReal))
    ∧ (∀ b : Fin 15, (a1 (ix1 b.castSucc)).toInt ≤ (a1 (ix1 b.succ)).toInt)
    ∧ 32768 ≤ (a1 (ix1 (15 : Fin 16))).toInt := by
  have h0 := congrFun h ix0
  dsimp only [fn, fn_part1] at h0
  obtain ⟨h1, hlast⟩ := IntOp.andi_eq_one.1 h0
  obtain ⟨h2, hmono⟩ := IntOp.andi_eq_one.1 h1
  obtain ⟨h3, hv⟩ := IntOp.andi_eq_one.1 h2
  obtain ⟨hX, hW⟩ := IntOp.andi_eq_one.1 h3
  haveI : Subsingleton S_.Idx := ⟨fun x y => funext fun a => a.elim0⟩
  have kX := Host.reduce_andi_all _ _ _ _ _ hX
  have kW := Host.reduce_andi_all _ _ _ _ _ hW
  have kv := Host.reduce_andi_all _ _ _ _ _ hv
  have kmono := Host.reduce_andi_all _ _ _ _ _ hmono
  have rX : ∀ n : Fin 32768, ∀ k : Fin 128, ∃ r : ℝ, a0 (ix2 n k) = (r : EReal) := fun n k => real_of_lt _ (kX (ix2 n k))
  have rW : ∀ k l : Fin 256, ∃ r : ℝ, a2 (ix2 k l) = (r : EReal) := fun k l => real_of_lt _ (kW (ix2 k l))
  have rv : ∀ l : Fin 256, ∃ r : ℝ, a3 (ix1 l) = (r : EReal) := fun l => real_of_lt _ (kv (ix1 l))
  choose X hX' using rX
  choose W hW' using rW
  choose v hv' using rv
  refine ⟨⟨X, hX'⟩, ⟨W, hW'⟩, ⟨v, hv'⟩, fun b => ?_, ?_⟩
  · have hb := kmono (ix1 b)
    have e1 : extractStridedSlice S15 ![0] a1 slices_S16_S15_0 (ix1 b) = a1 (ix1 b.castSucc) := by
      pointwise
      rfl
    have e2 : extractStridedSlice S15 ![1] a1 slices_S16_S15_1 (ix1 b) = a1 (ix1 b.succ) := by
      pointwise
      exact congrArg (fun q => a1 (ix1 q)) (Fin.ext (Nat.add_comm 1 b.val))
    have hb' := IntOp.cmpi_sle.1 hb
    rwa [e1, e2] at hb'
  · have hl := IntOp.cmpi_sge.1 hlast
    have e : shapeCast S_ (extractStridedSlice S1 ![15] a1 slices_S16_S1_15) shapeCasts_S1_S_ ix0 = a1 (ix1 (15 : Fin 16)) := by
      pointwise
    rw [e] at hl
    exact hl

end Cert.Pre_finite_sorted.Hand
-- ==== Proof.Equal.lean ====
module

public import proofs.«01_k».proof.Proof.Pre
public import proofs.«01_k».proof.Defs
public import proofs.«01_k».proof.Proof.Gen.Pre_finite_sorted

/-! # The two results are one array -/

@[expose] public section

noncomputable section

namespace Cert.Equal

open Idealize.ShloMosaic Idealize.ShloMosaic.TcCoe Idealize.SL.Sem Cert.Seg

/-- The reals and the segments of a launch that meets the precondition. -/
theorem given (m : (ℓ : Loc KernelIdeal.nD KernelIdeal.τ KernelIdeal.sig) → Buf (Elt Ideal) ℓ) (h : Cert.Pre_KernelIdeal_finite_sorted m) (c : Dev KernelIdeal.nD) :
    ∃ X W v seg, KernelIdeal.Hand.Given m c X W v seg := by
  obtain ⟨⟨X, hX⟩, ⟨W, hW⟩, ⟨v, hv⟩, hmono, hlast⟩ := Pre_finite_sorted.Hand.facts_of_pre _ _ _ _ _ _ (h c)
  obtain ⟨seg, hs⟩ := exists_seg (fun b => m ((c.tc : Thread KernelIdeal.nD KernelIdeal.τ).loc KernelIdeal.main_arg1) (ix1 b)) hmono hlast
  exact ⟨X, W, v, seg, hX, hW, hv, hs⟩

/-- On one launch both compute the same predictions. -/
theorem equal : Cert.algebraic_KernelIdeal_ReferenceIdeal_pre_finite_sorted := fun m g m' g' hp hargs => by
  choose X W v seg hG using given m hp
  refine ⟨fun c => KernelIdeal.Hand.result m c (X c) (W c) (v c) (seg c), fun c => m ((c.tc : Thread KernelIdeal.nD KernelIdeal.τ).loc KernelIdeal.main_arg1),
    KernelIdeal.Hand.run_value g X W v seg hG,
    (θ_run ReferenceIdeal.defs _ _).mono (fun r h c => ⟨(h c).1.trans ?_, (h c).2.1.trans (hargs c).2.1, (h c).2.2⟩) (ReferenceIdeal.Value.run (F := Ideal) m' g')⟩
  obtain ⟨e0, e1, e2, e3, e4, e5⟩ := hargs c
  have hG' := hG c
  funext i
  have hi : i = ix2 (i 0 : Fin 32768) (0 : Fin 1) := by
    funext a
    match a with
    | ⟨0, _⟩ => rfl
    | ⟨1, _⟩ => exact Subsingleton.elim (α := Fin 1) _ _
  have hr := ReferenceIdeal.Hand.res_real m' c (X := X c) (W := W c) (v := v c) (seg := seg c)
    (fun n k => (congrFun e0 _).trans (hG'.hX n k)) (fun k l => (congrFun e2 _).trans (hG'.hW k l)) (fun l => (congrFun e3 _).trans (hG'.hv l))
    (by rw [e1]; exact hG'.hs) (i 0)
  rw [e4, e5] at hr
  exact (congrArg (ReferenceIdeal.Value.res_main_v22 m' c) hi).trans hr

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Pipe
public import proofs.«01_k».proof.Proof.Same
public import proofs.«01_k».proof.Proof.Gen.Pre_finite_sorted
public import proofs.«01_k».proof.Proof.Equal
public import Idealize.ShloMosaic.Lib.Quiescent

@[expose] public section

noncomputable section

namespace Cert.Proof

open Idealize.ShloMosaic Idealize.ShloMosaic.TcCoe Idealize.SL.Sem

/-- The kernel's frame. -/
theorem frame_p : Cert.quiescent_Kernel := fun m ρ _ => by
  rw [Cert.Same.defs_eq, Cert.Same.main_eq]
  exact Cert.KernelIdeal.Hand.frame (F := Bits) m ρ

/-- The idealized kernel's frame. -/
theorem frame_pi : Cert.quiescent_KernelIdeal := fun m ρ _ => Cert.KernelIdeal.Hand.frame m ρ

/-- The idealized reference's frame. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The idealized kernel's frame, on launches that meet the precondition. -/
theorem frame_pi_pre : Cert.quiescent_KernelIdeal_pre_finite_sorted := fun m ρ _ => Cert.KernelIdeal.Hand.frame m ρ

/-- The idealized reference's frame, on launches that meet the precondition. -/
theorem frame_ri_pre : Cert.quiescent_ReferenceIdeal_pre_finite_sorted := fun m ρ _ => frame_ri m ρ trivial

/-- The certificate's claim. -/
theorem claim : Cert.Claim := ⟨Cert.Kernel.Gen.facts, Cert.KernelIdeal.Gen.facts, Cert.ReferenceIdeal.Gen.facts, Cert.Pre_finite_sorted.Gen.facts,
  frame_p, frame_pi, frame_pi_pre, frame_ri, frame_ri_pre, trivial, Cert.Equal.equal⟩

end Cert.Proof

end
